-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048x29 : Shape := ⟨3, ![128, 2048, 29]⟩
abbrev S16x8x16x128x29 : Shape := ⟨5, ![16, 8, 16, 128, 29]⟩
abbrev S29x16x16x8x128 : Shape := ⟨5, ![29, 16, 16, 8, 128]⟩
abbrev S29x128x2048 : Shape := ⟨3, ![29, 128, 2048]⟩
abbrev S4x16x8x128 : Shape := ⟨4, ![4, 16, 8, 128]⟩
abbrev S29x8x128 : Shape := ⟨3, ![29, 8, 128]⟩
abbrev S16x128 : Shape := ⟨2, ![16, 128]⟩
abbrev S_ : Shape := ⟨0, ![]⟩
abbrev S16 : Shape := ⟨1, ![16]⟩
abbrev S29x1x8x1x128 : Shape := ⟨5, ![29, 1, 8, 1, 128]⟩
abbrev S1x1x16 : Shape := ⟨3, ![1, 1, 16]⟩
abbrev S1x16 : Shape := ⟨2, ![1, 16]⟩
abbrev S1x16x1x128 : Shape := ⟨4, ![1, 16, 1, 128]⟩
abbrev S128x2048 : Shape := ⟨2, ![128, 2048]⟩
abbrev S29x8x2048 : Shape := ⟨3, ![29, 8, 2048]⟩
abbrev S8x2048 : Shape := ⟨2, ![8, 2048]⟩
abbrev S1x8x2048 : Shape := ⟨3, ![1, 8, 2048]⟩
abbrev S8x1 : Shape := ⟨2, ![8, 1]⟩
abbrev S8x2047 : Shape := ⟨2, ![8, 2047]⟩
abbrev S4x8x16x128 : Shape := ⟨4, ![4, 8, 16, 128]⟩
abbrev S32x2048 : Shape := ⟨2, ![32, 2048]⟩

abbrev nBuf : Table → Nat
  | .hbm => 29
  | .local .tc .vmem => 8
  | .local .scVector .vmem => 5
  | _ => 0

abbrev bufTy : (tb : Table) → Fin (nBuf tb) → BufTy
  | .hbm, ⟨0, _⟩ => ⟨S128x2048x29, .f32⟩
  | .hbm, ⟨1, _⟩ => ⟨S16x8x16x128x29, .f32⟩
  | .hbm, ⟨2, _⟩ => ⟨S29x16x16x8x128, .f32⟩
  | .hbm, ⟨3, _⟩ => ⟨S29x128x2048, .f32⟩
  | .hbm, ⟨4, _⟩ => ⟨S4x16x8x128, .i32⟩
  | .hbm, ⟨5, _⟩ => ⟨S4x16x8x128, .i32⟩
  | .hbm, ⟨6, _⟩ => ⟨S4x16x8x128, .f32⟩
  | .hbm, ⟨7, _⟩ => ⟨S128x2048, .i32⟩
  | .hbm, ⟨8, _⟩ => ⟨S128x2048, .i32⟩
  | .hbm, ⟨9, _⟩ => ⟨S128x2048, .f32⟩
  | .hbm, ⟨10, _⟩ => ⟨S4x8x16x128, .i32⟩
  | .hbm, ⟨11, _⟩ => ⟨S32x2048, .i32⟩
  | .hbm, ⟨12, _⟩ => ⟨S_, .i32⟩
  | .hbm, ⟨13, _⟩ => ⟨S_, .i32⟩
  | .hbm, ⟨14, _⟩ => ⟨S128x2048, .i32⟩
  | .hbm, ⟨15, _⟩ => ⟨S4x8x16x128, .i32⟩
  | .hbm, ⟨16, _⟩ => ⟨S32x2048, .i32⟩
  | .hbm, ⟨17, _⟩ => ⟨S_, .i32⟩
  | .hbm, ⟨18, _⟩ => ⟨S_, .i32⟩
  | .hbm, ⟨19, _⟩ => ⟨S128x2048, .i32⟩
  | .hbm, ⟨20, _⟩ => ⟨S4x8x16x128, .f32⟩
  | .hbm, ⟨21, _⟩ => ⟨S32x2048, .f32⟩
  | .hbm, ⟨22, _⟩ => ⟨S_, .i32⟩
  | .hbm, ⟨23, _⟩ => ⟨S_, .i32⟩
  | .hbm, ⟨24, _⟩ => ⟨S128x2048, .f32⟩
  | .hbm, ⟨25, _⟩ => ⟨S_, .i32⟩
  | .hbm, ⟨26, _⟩ => ⟨S128x2048, .i32⟩
  | .hbm, ⟨27, _⟩ => ⟨S128x2048, .i1⟩
  | .hbm, ⟨28, _⟩ => ⟨S128x2048, .i1⟩
  | .local .tc .vmem, ⟨0, _⟩ => ⟨S29x8x2048, .f32⟩
  | .local .tc .vmem, ⟨1, _⟩ => ⟨S29x8x2048, .f32⟩
  | .local .tc .vmem, ⟨2, _⟩ => ⟨S8x2048, .i32⟩
  | .local .tc .vmem, ⟨3, _⟩ => ⟨S8x2048, .i32⟩
  | .local .tc .vmem, ⟨4, _⟩ => ⟨S8x2048, .i32⟩
  | .local .tc .vmem, ⟨5, _⟩ => ⟨S8x2048, .i32⟩
  | .local .tc .vmem, ⟨6, _⟩ => ⟨S8x2048, .f32⟩
  | .local .tc .vmem, ⟨7, _⟩ => ⟨S8x2048, .f32⟩
  | .local .scVector .vmem, ⟨0, _⟩ => ⟨S29x8x128, .f32⟩
  | .local .scVector .vmem, ⟨1, _⟩ => ⟨S29x8x128, .f32⟩
  | .local .scVector .vmem, ⟨2, _⟩ => ⟨S16x128, .i32⟩
  | .local .scVector .vmem, ⟨3, _⟩ => ⟨S16x128, .i32⟩
  | .local .scVector .vmem, ⟨4, _⟩ => ⟨S16x128, .f32⟩
  | _, _ => ⟨S128x2048x29, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_c_4 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v1_scv : Ref sig .scVector := ⟨.hbm, 2, rfl⟩
abbrev main_v3_0_scv : Ref sig .scVector := ⟨.hbm, 4, rfl⟩
abbrev main_v3_1_scv : Ref sig .scVector := ⟨.hbm, 5, rfl⟩
abbrev main_v3_2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 5 → Nat :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c0_i32_11 : BitVec 32 := 0#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_12 : BitVec 32 := 0#32
  ![0, v19.toNat, 0, v29.toNat, 0]
def k0_off2 (i : grid0.Coords) : Fin 5 → Nat :=
  let c0_i32_22 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_23 : BitVec 32 := 8#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_24 : BitVec 32 := 0#32
  ![0, v19.toNat, 8, v29.toNat, 0]
@[reducible] def k0_t1_loop : Scf.Loop 32 :=
  let c0_i32_28 : BitVec 32 := 0#32
  let c64_i32 : BitVec 32 := 64#32
  let v42 : BitVec 32 := Scalar.addi c0_i32_28 c64_i32
  let c1_i32_29 : BitVec 32 := 1#32
  ⟨c0_i32_28, v42, c1_i32_29⟩
def k0_off3 (k0_t1 : Fin k0_t1_loop.trips) : Fin 3 → Nat :=
  let c0_i32_72 : BitVec 32 := 0#32
  let v98 : Index := Scalar.indexCast c0_i32_72
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_66 : BitVec 32 := 0#32
  let v82 : BitVec 1 := Scalar.cmpi .sgt v51 c0_i32_66
  let v83 : BitVec 32 := Scalar.extui v82
  let c0_i32_67 : BitVec 32 := 0#32
  let v84 : BitVec 1 := Scalar.cmpi .slt v51 c0_i32_67
  let v85 : BitVec 32 := Scalar.extui v84
  let v86 : BitVec 32 := Scalar.subi v83 v85
  let c8_i32_65 : BitVec 32 := 8#32
  let c0_i32_68 : BitVec 32 := 0#32
  let v87 : BitVec 1 := Scalar.cmpi .sgt c8_i32_65 c0_i32_68
  let v88 : BitVec 32 := Scalar.extui v87
  let c0_i32_69 : BitVec 32 := 0#32
  let v89 : BitVec 1 := Scalar.cmpi .slt c8_i32_65 c0_i32_69
  let v90 : BitVec 32 := Scalar.extui v89
  let v91 : BitVec 32 := Scalar.subi v88 v90
  let v92 : BitVec 1 := Scalar.cmpi .ne v86 v91
  let v93 : BitVec 32 := Scalar.remsi v51 c8_i32_65
  let c0_i32_70 : BitVec 32 := 0#32
  let v94 : BitVec 1 := Scalar.cmpi .ne v93 c0_i32_70
  let v95 : BitVec 1 := Scalar.andi v92 v94
  let v81 : BitVec 32 := Scalar.divsi v51 c8_i32_65
  let c1_i32_71 : BitVec 32 := 1#32
  let v96 : BitVec 32 := Scalar.subi v81 c1_i32_71
  let v97 : BitVec 32 := Scalar.select v95 v96 v81
  let v99 : Index := Scalar.indexCast v97
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v100 : Index := Scalar.indexCast v80
  ![0, v99.toNat, v100.toNat]
def k0_off4 (k0_t1 : Fin k0_t1_loop.trips) : Fin 3 → Nat :=
  let c1_i32_80 : BitVec 32 := 1#32
  let v119 : Index := Scalar.indexCast c1_i32_80
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_74 : BitVec 32 := 0#32
  let v103 : BitVec 1 := Scalar.cmpi .sgt v51 c0_i32_74
  let v104 : BitVec 32 := Scalar.extui v103
  let c0_i32_75 : BitVec 32 := 0#32
  let v105 : BitVec 1 := Scalar.cmpi .slt v51 c0_i32_75
  let v106 : BitVec 32 := Scalar.extui v105
  let v107 : BitVec 32 := Scalar.subi v104 v106
  let c8_i32_73 : BitVec 32 := 8#32
  let c0_i32_76 : BitVec 32 := 0#32
  let v108 : BitVec 1 := Scalar.cmpi .sgt c8_i32_73 c0_i32_76
  let v109 : BitVec 32 := Scalar.extui v108
  let c0_i32_77 : BitVec 32 := 0#32
  let v110 : BitVec 1 := Scalar.cmpi .slt c8_i32_73 c0_i32_77
  let v111 : BitVec 32 := Scalar.extui v110
  let v112 : BitVec 32 := Scalar.subi v109 v111
  let v113 : BitVec 1 := Scalar.cmpi .ne v107 v112
  let v114 : BitVec 32 := Scalar.remsi v51 c8_i32_73
  let c0_i32_78 : BitVec 32 := 0#32
  let v115 : BitVec 1 := Scalar.cmpi .ne v114 c0_i32_78
  let v116 : BitVec 1 := Scalar.andi v113 v115
  let v102 : BitVec 32 := Scalar.divsi v51 c8_i32_73
  let c1_i32_79 : BitVec 32 := 1#32
  let v117 : BitVec 32 := Scalar.subi v102 c1_i32_79
  let v118 : BitVec 32 := Scalar.select v116 v117 v102
  let v120 : Index := Scalar.indexCast v118
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v121 : Index := Scalar.indexCast v80
  ![1, v120.toNat, v121.toNat]
def k0_off5 (k0_t1 : Fin k0_t1_loop.trips) : Fin 3 → Nat :=
  let c2_i32_88 : BitVec 32 := 2#32
  let v140 : Index := Scalar.indexCast c2_i32_88
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_82 : BitVec 32 := 0#32
  let v124 : BitVec 1 := Scalar.cmpi .sgt v51 c0_i32_82
  let v125 : BitVec 32 := Scalar.extui v124
  let c0_i32_83 : BitVec 32 := 0#32
  let v126 : BitVec 1 := Scalar.cmpi .slt v51 c0_i32_83
  let v127 : BitVec 32 := Scalar.extui v126
  let v128 : BitVec 32 := Scalar.subi v125 v127
  let c8_i32_81 : BitVec 32 := 8#32
  let c0_i32_84 : BitVec 32 := 0#32
  let v129 : BitVec 1 := Scalar.cmpi .sgt c8_i32_81 c0_i32_84
  let v130 : BitVec 32 := Scalar.extui v129
  let c0_i32_85 : BitVec 32 := 0#32
  let v131 : BitVec 1 := Scalar.cmpi .slt c8_i32_81 c0_i32_85
  let v132 : BitVec 32 := Scalar.extui v131
  let v133 : BitVec 32 := Scalar.subi v130 v132
  let v134 : BitVec 1 := Scalar.cmpi .ne v128 v133
  let v135 : BitVec 32 := Scalar.remsi v51 c8_i32_81
  let c0_i32_86 : BitVec 32 := 0#32
  let v136 : BitVec 1 := Scalar.cmpi .ne v135 c0_i32_86
  let v137 : BitVec 1 := Scalar.andi v134 v136
  let v123 : BitVec 32 := Scalar.divsi v51 c8_i32_81
  let c1_i32_87 : BitVec 32 := 1#32
  let v138 : BitVec 32 := Scalar.subi v123 c1_i32_87
  let v139 : BitVec 32 := Scalar.select v137 v138 v123
  let v141 : Index := Scalar.indexCast v139
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v142 : Index := Scalar.indexCast v80
  ![2, v141.toNat, v142.toNat]
def k0_off6 (k0_t1 : Fin k0_t1_loop.trips) : Fin 3 → Nat :=
  let c3_i32 : BitVec 32 := 3#32
  let v161 : Index := Scalar.indexCast c3_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_90 : BitVec 32 := 0#32
  let v145 : BitVec 1 := Scalar.cmpi .sgt v51 c0_i32_90
  let v146 : BitVec 32 := Scalar.extui v145
  let c0_i32_91 : BitVec 32 := 0#32
  let v147 : BitVec 1 := Scalar.cmpi .slt v51 c0_i32_91
  let v148 : BitVec 32 := Scalar.extui v147
  let v149 : BitVec 32 := Scalar.subi v146 v148
  let c8_i32_89 : BitVec 32 := 8#32
  let c0_i32_92 : BitVec 32 := 0#32
  let v150 : BitVec 1 := Scalar.cmpi .sgt c8_i32_89 c0_i32_92
  let v151 : BitVec 32 := Scalar.extui v150
  let c0_i32_93 : BitVec 32 := 0#32
  let v152 : BitVec 1 := Scalar.cmpi .slt c8_i32_89 c0_i32_93
  let v153 : BitVec 32 := Scalar.extui v152
  let v154 : BitVec 32 := Scalar.subi v151 v153
  let v155 : BitVec 1 := Scalar.cmpi .ne v149 v154
  let v156 : BitVec 32 := Scalar.remsi v51 c8_i32_89
  let c0_i32_94 : BitVec 32 := 0#32
  let v157 : BitVec 1 := Scalar.cmpi .ne v156 c0_i32_94
  let v158 : BitVec 1 := Scalar.andi v155 v157
  let v144 : BitVec 32 := Scalar.divsi v51 c8_i32_89
  let c1_i32_95 : BitVec 32 := 1#32
  let v159 : BitVec 32 := Scalar.subi v144 c1_i32_95
  let v160 : BitVec 32 := Scalar.select v158 v159 v144
  let v162 : Index := Scalar.indexCast v160
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v163 : Index := Scalar.indexCast v80
  ![3, v162.toNat, v163.toNat]
def k0_off7 (k0_t1 : Fin k0_t1_loop.trips) : Fin 3 → Nat :=
  let c4_i32 : BitVec 32 := 4#32
  let v182 : Index := Scalar.indexCast c4_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_97 : BitVec 32 := 0#32
  let v166 : BitVec 1 := Scalar.cmpi .sgt v51 c0_i32_97
  let v167 : BitVec 32 := Scalar.extui v166
  let c0_i32_98 : BitVec 32 := 0#32
  let v168 : BitVec 1 := Scalar.cmpi .slt v51 c0_i32_98
  let v169 : BitVec 32 := Scalar.extui v168
  let v170 : BitVec 32 := Scalar.subi v167 v169
  let c8_i32_96 : BitVec 32 := 8#32
  let c0_i32_99 : BitVec 32 := 0#32
  let v171 : BitVec 1 := Scalar.cmpi .sgt c8_i32_96 c0_i32_99
  let v172 : BitVec 32 := Scalar.extui v171
  let c0_i32_100 : BitVec 32 := 0#32
  let v173 : BitVec 1 := Scalar.cmpi .slt c8_i32_96 c0_i32_100
  let v174 : BitVec 32 := Scalar.extui v173
  let v175 : BitVec 32 := Scalar.subi v172 v174
  let v176 : BitVec 1 := Scalar.cmpi .ne v170 v175
  let v177 : BitVec 32 := Scalar.remsi v51 c8_i32_96
  let c0_i32_101 : BitVec 32 := 0#32
  let v178 : BitVec 1 := Scalar.cmpi .ne v177 c0_i32_101
  let v179 : BitVec 1 := Scalar.andi v176 v178
  let v165 : BitVec 32 := Scalar.divsi v51 c8_i32_96
  let c1_i32_102 : BitVec 32 := 1#32
  let v180 : BitVec 32 := Scalar.subi v165 c1_i32_102
  let v181 : BitVec 32 := Scalar.select v179 v180 v165
  let v183 : Index := Scalar.indexCast v181
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v184 : Index := Scalar.indexCast v80
  ![4, v183.toNat, v184.toNat]
def k0_off8 (k0_t1 : Fin k0_t1_loop.trips) : Fin 3 → Nat :=
  let c5_i32 : BitVec 32 := 5#32
  let v203 : Index := Scalar.indexCast c5_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_104 : BitVec 32 := 0#32
  let v187 : BitVec 1 := Scalar.cmpi .sgt v51 c0_i32_104
  let v188 : BitVec 32 := Scalar.extui v187
  let c0_i32_105 : BitVec 32 := 0#32
  let v189 : BitVec 1 := Scalar.cmpi .slt v51 c0_i32_105
  let v190 : BitVec 32 := Scalar.extui v189
  let v191 : BitVec 32 := Scalar.subi v188 v190
  let c8_i32_103 : BitVec 32 := 8#32
  let c0_i32_106 : BitVec 32 := 0#32
  let v192 : BitVec 1 := Scalar.cmpi .sgt c8_i32_103 c0_i32_106
  let v193 : BitVec 32 := Scalar.extui v192
  let c0_i32_107 : BitVec 32 := 0#32
  let v194 : BitVec 1 := Scalar.cmpi .slt c8_i32_103 c0_i32_107
  let v195 : BitVec 32 := Scalar.extui v194
  let v196 : BitVec 32 := Scalar.subi v193 v195
  let v197 : BitVec 1 := Scalar.cmpi .ne v191 v196
  let v198 : BitVec 32 := Scalar.remsi v51 c8_i32_103
  let c0_i32_108 : BitVec 32 := 0#32
  let v199 : BitVec 1 := Scalar.cmpi .ne v198 c0_i32_108
  let v200 : BitVec 1 := Scalar.andi v197 v199
  let v186 : BitVec 32 := Scalar.divsi v51 c8_i32_103
  let c1_i32_109 : BitVec 32 := 1#32
  let v201 : BitVec 32 := Scalar.subi v186 c1_i32_109
  let v202 : BitVec 32 := Scalar.select v200 v201 v186
  let v204 : Index := Scalar.indexCast v202
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v205 : Index := Scalar.indexCast v80
  ![5, v204.toNat, v205.toNat]
def k0_off9 (k0_t1 : Fin k0_t1_loop.trips) : Fin 3 → Nat :=
  let c6_i32 : BitVec 32 := 6#32
  let v224 : Index := Scalar.indexCast c6_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_111 : BitVec 32 := 0#32
  let v208 : BitVec 1 := Scalar.cmpi .sgt v51 c0_i32_111
  let v209 : BitVec 32 := Scalar.extui v208
  let c0_i32_112 : BitVec 32 := 0#32
  let v210 : BitVec 1 := Scalar.cmpi .slt v51 c0_i32_112
  let v211 : BitVec 32 := Scalar.extui v210
  let v212 : BitVec 32 := Scalar.subi v209 v211
  let c8_i32_110 : BitVec 32 := 8#32
  let c0_i32_113 : BitVec 32 := 0#32
  let v213 : BitVec 1 := Scalar.cmpi .sgt c8_i32_110 c0_i32_113
  let v214 : BitVec 32 := Scalar.extui v213
  let c0_i32_114 : BitVec 32 := 0#32
  let v215 : BitVec 1 := Scalar.cmpi .slt c8_i32_110 c0_i32_114
  let v216 : BitVec 32 := Scalar.extui v215
  let v217 : BitVec 32 := Scalar.subi v214 v216
  let v218 : BitVec 1 := Scalar.cmpi .ne v212 v217
  let v219 : BitVec 32 := Scalar.remsi v51 c8_i32_110
  let c0_i32_115 : BitVec 32 := 0#32
  let v220 : BitVec 1 := Scalar.cmpi .ne v219 c0_i32_115
  let v221 : BitVec 1 := Scalar.andi v218 v220
  let v207 : BitVec 32 := Scalar.divsi v51 c8_i32_110
  let c1_i32_116 : BitVec 32 := 1#32
  let v222 : BitVec 32 := Scalar.subi v207 c1_i32_116
  let v223 : BitVec 32 := Scalar.select v221 v222 v207
  let v225 : Index := Scalar.indexCast v223
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v226 : Index := Scalar.indexCast v80
  ![6, v225.toNat, v226.toNat]
def k0_off10 (k0_t1 : Fin k0_t1_loop.trips) : Fin 3 → Nat :=
  let c7_i32 : BitVec 32 := 7#32
  let v245 : Index := Scalar.indexCast c7_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_118 : BitVec 32 := 0#32
  let v229 : BitVec 1 := Scalar.cmpi .sgt v51 c0_i32_118
  let v230 : BitVec 32 := Scalar.extui v229
  let c0_i32_119 : BitVec 32 := 0#32
  let v231 : BitVec 1 := Scalar.cmpi .slt v51 c0_i32_119
  let v232 : BitVec 32 := Scalar.extui v231
  let v233 : BitVec 32 := Scalar.subi v230 v232
  let c8_i32_117 : BitVec 32 := 8#32
  let c0_i32_120 : BitVec 32 := 0#32
  let v234 : BitVec 1 := Scalar.cmpi .sgt c8_i32_117 c0_i32_120
  let v235 : BitVec 32 := Scalar.extui v234
  let c0_i32_121 : BitVec 32 := 0#32
  let v236 : BitVec 1 := Scalar.cmpi .slt c8_i32_117 c0_i32_121
  let v237 : BitVec 32 := Scalar.extui v236
  let v238 : BitVec 32 := Scalar.subi v235 v237
  let v239 : BitVec 1 := Scalar.cmpi .ne v233 v238
  let v240 : BitVec 32 := Scalar.remsi v51 c8_i32_117
  let c0_i32_122 : BitVec 32 := 0#32
  let v241 : BitVec 1 := Scalar.cmpi .ne v240 c0_i32_122
  let v242 : BitVec 1 := Scalar.andi v239 v241
  let v228 : BitVec 32 := Scalar.divsi v51 c8_i32_117
  let c1_i32_123 : BitVec 32 := 1#32
  let v243 : BitVec 32 := Scalar.subi v228 c1_i32_123
  let v244 : BitVec 32 := Scalar.select v242 v243 v228
  let v246 : Index := Scalar.indexCast v244
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v247 : Index := Scalar.indexCast v80
  ![7, v246.toNat, v247.toNat]
def k0_off11 (k0_t1 : Fin k0_t1_loop.trips) : Fin 3 → Nat :=
  let c8_i32_131 : BitVec 32 := 8#32
  let v266 : Index := Scalar.indexCast c8_i32_131
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_125 : BitVec 32 := 0#32
  let v250 : BitVec 1 := Scalar.cmpi .sgt v51 c0_i32_125
  let v251 : BitVec 32 := Scalar.extui v250
  let c0_i32_126 : BitVec 32 := 0#32
  let v252 : BitVec 1 := Scalar.cmpi .slt v51 c0_i32_126
  let v253 : BitVec 32 := Scalar.extui v252
  let v254 : BitVec 32 := Scalar.subi v251 v253
  let c8_i32_124 : BitVec 32 := 8#32
  let c0_i32_127 : BitVec 32 := 0#32
  let v255 : BitVec 1 := Scalar.cmpi .sgt c8_i32_124 c0_i32_127
  let v256 : BitVec 32 := Scalar.extui v255
  let c0_i32_128 : BitVec 32 := 0#32
  let v257 : BitVec 1 := Scalar.cmpi .slt c8_i32_124 c0_i32_128
  let v258 : BitVec 32 := Scalar.extui v257
  let v259 : BitVec 32 := Scalar.subi v256 v258
  let v260 : BitVec 1 := Scalar.cmpi .ne v254 v259
  let v261 : BitVec 32 := Scalar.remsi v51 c8_i32_124
  let c0_i32_129 : BitVec 32 := 0#32
  let v262 : BitVec 1 := Scalar.cmpi .ne v261 c0_i32_129
  let v263 : BitVec 1 := Scalar.andi v260 v262
  let v249 : BitVec 32 := Scalar.divsi v51 c8_i32_124
  let c1_i32_130 : BitVec 32 := 1#32
  let v264 : BitVec 32 := Scalar.subi v249 c1_i32_130
  let v265 : BitVec 32 := Scalar.select v263 v264 v249
  let v267 : Index := Scalar.indexCast v265
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v268 : Index := Scalar.indexCast v80
  ![8, v267.toNat, v268.toNat]
def k0_off12 (k0_t1 : Fin k0_t1_loop.trips) : Fin 3 → Nat :=
  let c9_i32 : BitVec 32 := 9#32
  let v287 : Index := Scalar.indexCast c9_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_133 : BitVec 32 := 0#32
  let v271 : BitVec 1 := Scalar.cmpi .sgt v51 c0_i32_133
  let v272 : BitVec 32 := Scalar.extui v271
  let c0_i32_134 : BitVec 32 := 0#32
  let v273 : BitVec 1 := Scalar.cmpi .slt v51 c0_i32_134
  let v274 : BitVec 32 := Scalar.extui v273
  let v275 : BitVec 32 := Scalar.subi v272 v274
  let c8_i32_132 : BitVec 32 := 8#32
  let c0_i32_135 : BitVec 32 := 0#32
  let v276 : BitVec 1 := Scalar.cmpi .sgt c8_i32_132 c0_i32_135
  let v277 : BitVec 32 := Scalar.extui v276
  let c0_i32_136 : BitVec 32 := 0#32
  let v278 : BitVec 1 := Scalar.cmpi .slt c8_i32_132 c0_i32_136
  let v279 : BitVec 32 := Scalar.extui v278
  let v280 : BitVec 32 := Scalar.subi v277 v279
  let v281 : BitVec 1 := Scalar.cmpi .ne v275 v280
  let v282 : BitVec 32 := Scalar.remsi v51 c8_i32_132
  let c0_i32_137 : BitVec 32 := 0#32
  let v283 : BitVec 1 := Scalar.cmpi .ne v282 c0_i32_137
  let v284 : BitVec 1 := Scalar.andi v281 v283
  let v270 : BitVec 32 := Scalar.divsi v51 c8_i32_132
  let c1_i32_138 : BitVec 32 := 1#32
  let v285 : BitVec 32 := Scalar.subi v270 c1_i32_138
  let v286 : BitVec 32 := Scalar.select v284 v285 v270
  let v288 : Index := Scalar.indexCast v286
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v289 : Index := Scalar.indexCast v80
  ![9, v288.toNat, v289.toNat]
def k0_off13 (k0_t1 : Fin k0_t1_loop.trips) : Fin 3 → Nat :=
  let c10_i32 : BitVec 32 := 10#32
  let v308 : Index := Scalar.indexCast c10_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_140 : BitVec 32 := 0#32
  let v292 : BitVec 1 := Scalar.cmpi .sgt v51 c0_i32_140
  let v293 : BitVec 32 := Scalar.extui v292
  let c0_i32_141 : BitVec 32 := 0#32
  let v294 : BitVec 1 := Scalar.cmpi .slt v51 c0_i32_141
  let v295 : BitVec 32 := Scalar.extui v294
  let v296 : BitVec 32 := Scalar.subi v293 v295
  let c8_i32_139 : BitVec 32 := 8#32
  let c0_i32_142 : BitVec 32 := 0#32
  let v297 : BitVec 1 := Scalar.cmpi .sgt c8_i32_139 c0_i32_142
  let v298 : BitVec 32 := Scalar.extui v297
  let c0_i32_143 : BitVec 32 := 0#32
  let v299 : BitVec 1 := Scalar.cmpi .slt c8_i32_139 c0_i32_143
  let v300 : BitVec 32 := Scalar.extui v299
  let v301 : BitVec 32 := Scalar.subi v298 v300
  let v302 : BitVec 1 := Scalar.cmpi .ne v296 v301
  let v303 : BitVec 32 := Scalar.remsi v51 c8_i32_139
  let c0_i32_144 : BitVec 32 := 0#32
  let v304 : BitVec 1 := Scalar.cmpi .ne v303 c0_i32_144
  let v305 : BitVec 1 := Scalar.andi v302 v304
  let v291 : BitVec 32 := Scalar.divsi v51 c8_i32_139
  let c1_i32_145 : BitVec 32 := 1#32
  let v306 : BitVec 32 := Scalar.subi v291 c1_i32_145
  let v307 : BitVec 32 := Scalar.select v305 v306 v291
  let v309 : Index := Scalar.indexCast v307
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v310 : Index := Scalar.indexCast v80
  ![10, v309.toNat, v310.toNat]
def k0_off14 (k0_t1 : Fin k0_t1_loop.trips) : Fin 3 → Nat :=
  let c11_i32 : BitVec 32 := 11#32
  let v329 : Index := Scalar.indexCast c11_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_147 : BitVec 32 := 0#32
  let v313 : BitVec 1 := Scalar.cmpi .sgt v51 c0_i32_147
  let v314 : BitVec 32 := Scalar.extui v313
  let c0_i32_148 : BitVec 32 := 0#32
  let v315 : BitVec 1 := Scalar.cmpi .slt v51 c0_i32_148
  let v316 : BitVec 32 := Scalar.extui v315
  let v317 : BitVec 32 := Scalar.subi v314 v316
  let c8_i32_146 : BitVec 32 := 8#32
  let c0_i32_149 : BitVec 32 := 0#32
  let v318 : BitVec 1 := Scalar.cmpi .sgt c8_i32_146 c0_i32_149
  let v319 : BitVec 32 := Scalar.extui v318
  let c0_i32_150 : BitVec 32 := 0#32
  let v320 : BitVec 1 := Scalar.cmpi .slt c8_i32_146 c0_i32_150
  let v321 : BitVec 32 := Scalar.extui v320
  let v322 : BitVec 32 := Scalar.subi v319 v321
  let v323 : BitVec 1 := Scalar.cmpi .ne v317 v322
  let v324 : BitVec 32 := Scalar.remsi v51 c8_i32_146
  let c0_i32_151 : BitVec 32 := 0#32
  let v325 : BitVec 1 := Scalar.cmpi .ne v324 c0_i32_151
  let v326 : BitVec 1 := Scalar.andi v323 v325
  let v312 : BitVec 32 := Scalar.divsi v51 c8_i32_146
  let c1_i32_152 : BitVec 32 := 1#32
  let v327 : BitVec 32 := Scalar.subi v312 c1_i32_152
  let v328 : BitVec 32 := Scalar.select v326 v327 v312
  let v330 : Index := Scalar.indexCast v328
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v331 : Index := Scalar.indexCast v80
  ![11, v330.toNat, v331.toNat]
def k0_off15 (k0_t1 : Fin k0_t1_loop.trips) : Fin 3 → Nat :=
  let c12_i32 : BitVec 32 := 12#32
  let v350 : Index := Scalar.indexCast c12_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_154 : BitVec 32 := 0#32
  let v334 : BitVec 1 := Scalar.cmpi .sgt v51 c0_i32_154
  let v335 : BitVec 32 := Scalar.extui v334
  let c0_i32_155 : BitVec 32 := 0#32
  let v336 : BitVec 1 := Scalar.cmpi .slt v51 c0_i32_155
  let v337 : BitVec 32 := Scalar.extui v336
  let v338 : BitVec 32 := Scalar.subi v335 v337
  let c8_i32_153 : BitVec 32 := 8#32
  let c0_i32_156 : BitVec 32 := 0#32
  let v339 : BitVec 1 := Scalar.cmpi .sgt c8_i32_153 c0_i32_156
  let v340 : BitVec 32 := Scalar.extui v339
  let c0_i32_157 : BitVec 32 := 0#32
  let v341 : BitVec 1 := Scalar.cmpi .slt c8_i32_153 c0_i32_157
  let v342 : BitVec 32 := Scalar.extui v341
  let v343 : BitVec 32 := Scalar.subi v340 v342
  let v344 : BitVec 1 := Scalar.cmpi .ne v338 v343
  let v345 : BitVec 32 := Scalar.remsi v51 c8_i32_153
  let c0_i32_158 : BitVec 32 := 0#32
  let v346 : BitVec 1 := Scalar.cmpi .ne v345 c0_i32_158
  let v347 : BitVec 1 := Scalar.andi v344 v346
  let v333 : BitVec 32 := Scalar.divsi v51 c8_i32_153
  let c1_i32_159 : BitVec 32 := 1#32
  let v348 : BitVec 32 := Scalar.subi v333 c1_i32_159
  let v349 : BitVec 32 := Scalar.select v347 v348 v333
  let v351 : Index := Scalar.indexCast v349
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v352 : Index := Scalar.indexCast v80
  ![12, v351.toNat, v352.toNat]
def k0_off16 (k0_t1 : Fin k0_t1_loop.trips) : Fin 3 → Nat :=
  let c13_i32 : BitVec 32 := 13#32
  let v371 : Index := Scalar.indexCast c13_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_161 : BitVec 32 := 0#32
  let v355 : BitVec 1 := Scalar.cmpi .sgt v51 c0_i32_161
  let v356 : BitVec 32 := Scalar.extui v355
  let c0_i32_162 : BitVec 32 := 0#32
  let v357 : BitVec 1 := Scalar.cmpi .slt v51 c0_i32_162
  let v358 : BitVec 32 := Scalar.extui v357
  let v359 : BitVec 32 := Scalar.subi v356 v358
  let c8_i32_160 : BitVec 32 := 8#32
  let c0_i32_163 : BitVec 32 := 0#32
  let v360 : BitVec 1 := Scalar.cmpi .sgt c8_i32_160 c0_i32_163
  let v361 : BitVec 32 := Scalar.extui v360
  let c0_i32_164 : BitVec 32 := 0#32
  let v362 : BitVec 1 := Scalar.cmpi .slt c8_i32_160 c0_i32_164
  let v363 : BitVec 32 := Scalar.extui v362
  let v364 : BitVec 32 := Scalar.subi v361 v363
  let v365 : BitVec 1 := Scalar.cmpi .ne v359 v364
  let v366 : BitVec 32 := Scalar.remsi v51 c8_i32_160
  let c0_i32_165 : BitVec 32 := 0#32
  let v367 : BitVec 1 := Scalar.cmpi .ne v366 c0_i32_165
  let v368 : BitVec 1 := Scalar.andi v365 v367
  let v354 : BitVec 32 := Scalar.divsi v51 c8_i32_160
  let c1_i32_166 : BitVec 32 := 1#32
  let v369 : BitVec 32 := Scalar.subi v354 c1_i32_166
  let v370 : BitVec 32 := Scalar.select v368 v369 v354
  let v372 : Index := Scalar.indexCast v370
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v373 : Index := Scalar.indexCast v80
  ![13, v372.toNat, v373.toNat]
def k0_off17 (k0_t1 : Fin k0_t1_loop.trips) : Fin 3 → Nat :=
  let c14_i32 : BitVec 32 := 14#32
  let v392 : Index := Scalar.indexCast c14_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_168 : BitVec 32 := 0#32
  let v376 : BitVec 1 := Scalar.cmpi .sgt v51 c0_i32_168
  let v377 : BitVec 32 := Scalar.extui v376
  let c0_i32_169 : BitVec 32 := 0#32
  let v378 : BitVec 1 := Scalar.cmpi .slt v51 c0_i32_169
  let v379 : BitVec 32 := Scalar.extui v378
  let v380 : BitVec 32 := Scalar.subi v377 v379
  let c8_i32_167 : BitVec 32 := 8#32
  let c0_i32_170 : BitVec 32 := 0#32
  let v381 : BitVec 1 := Scalar.cmpi .sgt c8_i32_167 c0_i32_170
  let v382 : BitVec 32 := Scalar.extui v381
  let c0_i32_171 : BitVec 32 := 0#32
  let v383 : BitVec 1 := Scalar.cmpi .slt c8_i32_167 c0_i32_171
  let v384 : BitVec 32 := Scalar.extui v383
  let v385 : BitVec 32 := Scalar.subi v382 v384
  let v386 : BitVec 1 := Scalar.cmpi .ne v380 v385
  let v387 : BitVec 32 := Scalar.remsi v51 c8_i32_167
  let c0_i32_172 : BitVec 32 := 0#32
  let v388 : BitVec 1 := Scalar.cmpi .ne v387 c0_i32_172
  let v389 : BitVec 1 := Scalar.andi v386 v388
  let v375 : BitVec 32 := Scalar.divsi v51 c8_i32_167
  let c1_i32_173 : BitVec 32 := 1#32
  let v390 : BitVec 32 := Scalar.subi v375 c1_i32_173
  let v391 : BitVec 32 := Scalar.select v389 v390 v375
  let v393 : Index := Scalar.indexCast v391
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v394 : Index := Scalar.indexCast v80
  ![14, v393.toNat, v394.toNat]
def k0_off18 (k0_t1 : Fin k0_t1_loop.trips) : Fin 3 → Nat :=
  let c15_i32 : BitVec 32 := 15#32
  let v413 : Index := Scalar.indexCast c15_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_175 : BitVec 32 := 0#32
  let v397 : BitVec 1 := Scalar.cmpi .sgt v51 c0_i32_175
  let v398 : BitVec 32 := Scalar.extui v397
  let c0_i32_176 : BitVec 32 := 0#32
  let v399 : BitVec 1 := Scalar.cmpi .slt v51 c0_i32_176
  let v400 : BitVec 32 := Scalar.extui v399
  let v401 : BitVec 32 := Scalar.subi v398 v400
  let c8_i32_174 : BitVec 32 := 8#32
  let c0_i32_177 : BitVec 32 := 0#32
  let v402 : BitVec 1 := Scalar.cmpi .sgt c8_i32_174 c0_i32_177
  let v403 : BitVec 32 := Scalar.extui v402
  let c0_i32_178 : BitVec 32 := 0#32
  let v404 : BitVec 1 := Scalar.cmpi .slt c8_i32_174 c0_i32_178
  let v405 : BitVec 32 := Scalar.extui v404
  let v406 : BitVec 32 := Scalar.subi v403 v405
  let v407 : BitVec 1 := Scalar.cmpi .ne v401 v406
  let v408 : BitVec 32 := Scalar.remsi v51 c8_i32_174
  let c0_i32_179 : BitVec 32 := 0#32
  let v409 : BitVec 1 := Scalar.cmpi .ne v408 c0_i32_179
  let v410 : BitVec 1 := Scalar.andi v407 v409
  let v396 : BitVec 32 := Scalar.divsi v51 c8_i32_174
  let c1_i32_180 : BitVec 32 := 1#32
  let v411 : BitVec 32 := Scalar.subi v396 c1_i32_180
  let v412 : BitVec 32 := Scalar.select v410 v411 v396
  let v414 : Index := Scalar.indexCast v412
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v415 : Index := Scalar.indexCast v80
  ![15, v414.toNat, v415.toNat]
def k0_off19 (k0_t1 : Fin k0_t1_loop.trips) : Fin 3 → Nat :=
  let c16_i32_188 : BitVec 32 := 16#32
  let v434 : Index := Scalar.indexCast c16_i32_188
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_182 : BitVec 32 := 0#32
  let v418 : BitVec 1 := Scalar.cmpi .sgt v51 c0_i32_182
  let v419 : BitVec 32 := Scalar.extui v418
  let c0_i32_183 : BitVec 32 := 0#32
  let v420 : BitVec 1 := Scalar.cmpi .slt v51 c0_i32_183
  let v421 : BitVec 32 := Scalar.extui v420
  let v422 : BitVec 32 := Scalar.subi v419 v421
  let c8_i32_181 : BitVec 32 := 8#32
  let c0_i32_184 : BitVec 32 := 0#32
  let v423 : BitVec 1 := Scalar.cmpi .sgt c8_i32_181 c0_i32_184
  let v424 : BitVec 32 := Scalar.extui v423
  let c0_i32_185 : BitVec 32 := 0#32
  let v425 : BitVec 1 := Scalar.cmpi .slt c8_i32_181 c0_i32_185
  let v426 : BitVec 32 := Scalar.extui v425
  let v427 : BitVec 32 := Scalar.subi v424 v426
  let v428 : BitVec 1 := Scalar.cmpi .ne v422 v427
  let v429 : BitVec 32 := Scalar.remsi v51 c8_i32_181
  let c0_i32_186 : BitVec 32 := 0#32
  let v430 : BitVec 1 := Scalar.cmpi .ne v429 c0_i32_186
  let v431 : BitVec 1 := Scalar.andi v428 v430
  let v417 : BitVec 32 := Scalar.divsi v51 c8_i32_181
  let c1_i32_187 : BitVec 32 := 1#32
  let v432 : BitVec 32 := Scalar.subi v417 c1_i32_187
  let v433 : BitVec 32 := Scalar.select v431 v432 v417
  let v435 : Index := Scalar.indexCast v433
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v436 : Index := Scalar.indexCast v80
  ![16, v435.toNat, v436.toNat]
def k0_off20 (k0_t1 : Fin k0_t1_loop.trips) : Fin 3 → Nat :=
  let c17_i32 : BitVec 32 := 17#32
  let v455 : Index := Scalar.indexCast c17_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_190 : BitVec 32 := 0#32
  let v439 : BitVec 1 := Scalar.cmpi .sgt v51 c0_i32_190
  let v440 : BitVec 32 := Scalar.extui v439
  let c0_i32_191 : BitVec 32 := 0#32
  let v441 : BitVec 1 := Scalar.cmpi .slt v51 c0_i32_191
  let v442 : BitVec 32 := Scalar.extui v441
  let v443 : BitVec 32 := Scalar.subi v440 v442
  let c8_i32_189 : BitVec 32 := 8#32
  let c0_i32_192 : BitVec 32 := 0#32
  let v444 : BitVec 1 := Scalar.cmpi .sgt c8_i32_189 c0_i32_192
  let v445 : BitVec 32 := Scalar.extui v444
  let c0_i32_193 : BitVec 32 := 0#32
  let v446 : BitVec 1 := Scalar.cmpi .slt c8_i32_189 c0_i32_193
  let v447 : BitVec 32 := Scalar.extui v446
  let v448 : BitVec 32 := Scalar.subi v445 v447
  let v449 : BitVec 1 := Scalar.cmpi .ne v443 v448
  let v450 : BitVec 32 := Scalar.remsi v51 c8_i32_189
  let c0_i32_194 : BitVec 32 := 0#32
  let v451 : BitVec 1 := Scalar.cmpi .ne v450 c0_i32_194
  let v452 : BitVec 1 := Scalar.andi v449 v451
  let v438 : BitVec 32 := Scalar.divsi v51 c8_i32_189
  let c1_i32_195 : BitVec 32 := 1#32
  let v453 : BitVec 32 := Scalar.subi v438 c1_i32_195
  let v454 : BitVec 32 := Scalar.select v452 v453 v438
  let v456 : Index := Scalar.indexCast v454
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v457 : Index := Scalar.indexCast v80
  ![17, v456.toNat, v457.toNat]
def k0_off21 (k0_t1 : Fin k0_t1_loop.trips) : Fin 3 → Nat :=
  let c18_i32 : BitVec 32 := 18#32
  let v476 : Index := Scalar.indexCast c18_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_197 : BitVec 32 := 0#32
  let v460 : BitVec 1 := Scalar.cmpi .sgt v51 c0_i32_197
  let v461 : BitVec 32 := Scalar.extui v460
  let c0_i32_198 : BitVec 32 := 0#32
  let v462 : BitVec 1 := Scalar.cmpi .slt v51 c0_i32_198
  let v463 : BitVec 32 := Scalar.extui v462
  let v464 : BitVec 32 := Scalar.subi v461 v463
  let c8_i32_196 : BitVec 32 := 8#32
  let c0_i32_199 : BitVec 32 := 0#32
  let v465 : BitVec 1 := Scalar.cmpi .sgt c8_i32_196 c0_i32_199
  let v466 : BitVec 32 := Scalar.extui v465
  let c0_i32_200 : BitVec 32 := 0#32
  let v467 : BitVec 1 := Scalar.cmpi .slt c8_i32_196 c0_i32_200
  let v468 : BitVec 32 := Scalar.extui v467
  let v469 : BitVec 32 := Scalar.subi v466 v468
  let v470 : BitVec 1 := Scalar.cmpi .ne v464 v469
  let v471 : BitVec 32 := Scalar.remsi v51 c8_i32_196
  let c0_i32_201 : BitVec 32 := 0#32
  let v472 : BitVec 1 := Scalar.cmpi .ne v471 c0_i32_201
  let v473 : BitVec 1 := Scalar.andi v470 v472
  let v459 : BitVec 32 := Scalar.divsi v51 c8_i32_196
  let c1_i32_202 : BitVec 32 := 1#32
  let v474 : BitVec 32 := Scalar.subi v459 c1_i32_202
  let v475 : BitVec 32 := Scalar.select v473 v474 v459
  let v477 : Index := Scalar.indexCast v475
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v478 : Index := Scalar.indexCast v80
  ![18, v477.toNat, v478.toNat]
def k0_off22 (k0_t1 : Fin k0_t1_loop.trips) : Fin 3 → Nat :=
  let c19_i32 : BitVec 32 := 19#32
  let v497 : Index := Scalar.indexCast c19_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_204 : BitVec 32 := 0#32
  let v481 : BitVec 1 := Scalar.cmpi .sgt v51 c0_i32_204
  let v482 : BitVec 32 := Scalar.extui v481
  let c0_i32_205 : BitVec 32 := 0#32
  let v483 : BitVec 1 := Scalar.cmpi .slt v51 c0_i32_205
  let v484 : BitVec 32 := Scalar.extui v483
  let v485 : BitVec 32 := Scalar.subi v482 v484
  let c8_i32_203 : BitVec 32 := 8#32
  let c0_i32_206 : BitVec 32 := 0#32
  let v486 : BitVec 1 := Scalar.cmpi .sgt c8_i32_203 c0_i32_206
  let v487 : BitVec 32 := Scalar.extui v486
  let c0_i32_207 : BitVec 32 := 0#32
  let v488 : BitVec 1 := Scalar.cmpi .slt c8_i32_203 c0_i32_207
  let v489 : BitVec 32 := Scalar.extui v488
  let v490 : BitVec 32 := Scalar.subi v487 v489
  let v491 : BitVec 1 := Scalar.cmpi .ne v485 v490
  let v492 : BitVec 32 := Scalar.remsi v51 c8_i32_203
  let c0_i32_208 : BitVec 32 := 0#32
  let v493 : BitVec 1 := Scalar.cmpi .ne v492 c0_i32_208
  let v494 : BitVec 1 := Scalar.andi v491 v493
  let v480 : BitVec 32 := Scalar.divsi v51 c8_i32_203
  let c1_i32_209 : BitVec 32 := 1#32
  let v495 : BitVec 32 := Scalar.subi v480 c1_i32_209
  let v496 : BitVec 32 := Scalar.select v494 v495 v480
  let v498 : Index := Scalar.indexCast v496
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v499 : Index := Scalar.indexCast v80
  ![19, v498.toNat, v499.toNat]
def k0_off23 (k0_t1 : Fin k0_t1_loop.trips) : Fin 3 → Nat :=
  let c20_i32 : BitVec 32 := 20#32
  let v518 : Index := Scalar.indexCast c20_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_211 : BitVec 32 := 0#32
  let v502 : BitVec 1 := Scalar.cmpi .sgt v51 c0_i32_211
  let v503 : BitVec 32 := Scalar.extui v502
  let c0_i32_212 : BitVec 32 := 0#32
  let v504 : BitVec 1 := Scalar.cmpi .slt v51 c0_i32_212
  let v505 : BitVec 32 := Scalar.extui v504
  let v506 : BitVec 32 := Scalar.subi v503 v505
  let c8_i32_210 : BitVec 32 := 8#32
  let c0_i32_213 : BitVec 32 := 0#32
  let v507 : BitVec 1 := Scalar.cmpi .sgt c8_i32_210 c0_i32_213
  let v508 : BitVec 32 := Scalar.extui v507
  let c0_i32_214 : BitVec 32 := 0#32
  let v509 : BitVec 1 := Scalar.cmpi .slt c8_i32_210 c0_i32_214
  let v510 : BitVec 32 := Scalar.extui v509
  let v511 : BitVec 32 := Scalar.subi v508 v510
  let v512 : BitVec 1 := Scalar.cmpi .ne v506 v511
  let v513 : BitVec 32 := Scalar.remsi v51 c8_i32_210
  let c0_i32_215 : BitVec 32 := 0#32
  let v514 : BitVec 1 := Scalar.cmpi .ne v513 c0_i32_215
  let v515 : BitVec 1 := Scalar.andi v512 v514
  let v501 : BitVec 32 := Scalar.divsi v51 c8_i32_210
  let c1_i32_216 : BitVec 32 := 1#32
  let v516 : BitVec 32 := Scalar.subi v501 c1_i32_216
  let v517 : BitVec 32 := Scalar.select v515 v516 v501
  let v519 : Index := Scalar.indexCast v517
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v520 : Index := Scalar.indexCast v80
  ![20, v519.toNat, v520.toNat]
def k0_off24 (k0_t1 : Fin k0_t1_loop.trips) : Fin 3 → Nat :=
  let c21_i32 : BitVec 32 := 21#32
  let v539 : Index := Scalar.indexCast c21_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_218 : BitVec 32 := 0#32
  let v523 : BitVec 1 := Scalar.cmpi .sgt v51 c0_i32_218
  let v524 : BitVec 32 := Scalar.extui v523
  let c0_i32_219 : BitVec 32 := 0#32
  let v525 : BitVec 1 := Scalar.cmpi .slt v51 c0_i32_219
  let v526 : BitVec 32 := Scalar.extui v525
  let v527 : BitVec 32 := Scalar.subi v524 v526
  let c8_i32_217 : BitVec 32 := 8#32
  let c0_i32_220 : BitVec 32 := 0#32
  let v528 : BitVec 1 := Scalar.cmpi .sgt c8_i32_217 c0_i32_220
  let v529 : BitVec 32 := Scalar.extui v528
  let c0_i32_221 : BitVec 32 := 0#32
  let v530 : BitVec 1 := Scalar.cmpi .slt c8_i32_217 c0_i32_221
  let v531 : BitVec 32 := Scalar.extui v530
  let v532 : BitVec 32 := Scalar.subi v529 v531
  let v533 : BitVec 1 := Scalar.cmpi .ne v527 v532
  let v534 : BitVec 32 := Scalar.remsi v51 c8_i32_217
  let c0_i32_222 : BitVec 32 := 0#32
  let v535 : BitVec 1 := Scalar.cmpi .ne v534 c0_i32_222
  let v536 : BitVec 1 := Scalar.andi v533 v535
  let v522 : BitVec 32 := Scalar.divsi v51 c8_i32_217
  let c1_i32_223 : BitVec 32 := 1#32
  let v537 : BitVec 32 := Scalar.subi v522 c1_i32_223
  let v538 : BitVec 32 := Scalar.select v536 v537 v522
  let v540 : Index := Scalar.indexCast v538
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v541 : Index := Scalar.indexCast v80
  ![21, v540.toNat, v541.toNat]
def k0_off25 (k0_t1 : Fin k0_t1_loop.trips) : Fin 3 → Nat :=
  let c22_i32 : BitVec 32 := 22#32
  let v560 : Index := Scalar.indexCast c22_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_225 : BitVec 32 := 0#32
  let v544 : BitVec 1 := Scalar.cmpi .sgt v51 c0_i32_225
  let v545 : BitVec 32 := Scalar.extui v544
  let c0_i32_226 : BitVec 32 := 0#32
  let v546 : BitVec 1 := Scalar.cmpi .slt v51 c0_i32_226
  let v547 : BitVec 32 := Scalar.extui v546
  let v548 : BitVec 32 := Scalar.subi v545 v547
  let c8_i32_224 : BitVec 32 := 8#32
  let c0_i32_227 : BitVec 32 := 0#32
  let v549 : BitVec 1 := Scalar.cmpi .sgt c8_i32_224 c0_i32_227
  let v550 : BitVec 32 := Scalar.extui v549
  let c0_i32_228 : BitVec 32 := 0#32
  let v551 : BitVec 1 := Scalar.cmpi .slt c8_i32_224 c0_i32_228
  let v552 : BitVec 32 := Scalar.extui v551
  let v553 : BitVec 32 := Scalar.subi v550 v552
  let v554 : BitVec 1 := Scalar.cmpi .ne v548 v553
  let v555 : BitVec 32 := Scalar.remsi v51 c8_i32_224
  let c0_i32_229 : BitVec 32 := 0#32
  let v556 : BitVec 1 := Scalar.cmpi .ne v555 c0_i32_229
  let v557 : BitVec 1 := Scalar.andi v554 v556
  let v543 : BitVec 32 := Scalar.divsi v51 c8_i32_224
  let c1_i32_230 : BitVec 32 := 1#32
  let v558 : BitVec 32 := Scalar.subi v543 c1_i32_230
  let v559 : BitVec 32 := Scalar.select v557 v558 v543
  let v561 : Index := Scalar.indexCast v559
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v562 : Index := Scalar.indexCast v80
  ![22, v561.toNat, v562.toNat]
def k0_off26 (k0_t1 : Fin k0_t1_loop.trips) : Fin 3 → Nat :=
  let c23_i32 : BitVec 32 := 23#32
  let v581 : Index := Scalar.indexCast c23_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_232 : BitVec 32 := 0#32
  let v565 : BitVec 1 := Scalar.cmpi .sgt v51 c0_i32_232
  let v566 : BitVec 32 := Scalar.extui v565
  let c0_i32_233 : BitVec 32 := 0#32
  let v567 : BitVec 1 := Scalar.cmpi .slt v51 c0_i32_233
  let v568 : BitVec 32 := Scalar.extui v567
  let v569 : BitVec 32 := Scalar.subi v566 v568
  let c8_i32_231 : BitVec 32 := 8#32
  let c0_i32_234 : BitVec 32 := 0#32
  let v570 : BitVec 1 := Scalar.cmpi .sgt c8_i32_231 c0_i32_234
  let v571 : BitVec 32 := Scalar.extui v570
  let c0_i32_235 : BitVec 32 := 0#32
  let v572 : BitVec 1 := Scalar.cmpi .slt c8_i32_231 c0_i32_235
  let v573 : BitVec 32 := Scalar.extui v572
  let v574 : BitVec 32 := Scalar.subi v571 v573
  let v575 : BitVec 1 := Scalar.cmpi .ne v569 v574
  let v576 : BitVec 32 := Scalar.remsi v51 c8_i32_231
  let c0_i32_236 : BitVec 32 := 0#32
  let v577 : BitVec 1 := Scalar.cmpi .ne v576 c0_i32_236
  let v578 : BitVec 1 := Scalar.andi v575 v577
  let v564 : BitVec 32 := Scalar.divsi v51 c8_i32_231
  let c1_i32_237 : BitVec 32 := 1#32
  let v579 : BitVec 32 := Scalar.subi v564 c1_i32_237
  let v580 : BitVec 32 := Scalar.select v578 v579 v564
  let v582 : Index := Scalar.indexCast v580
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v583 : Index := Scalar.indexCast v80
  ![23, v582.toNat, v583.toNat]
def k0_off27 (k0_t1 : Fin k0_t1_loop.trips) : Fin 3 → Nat :=
  let c24_i32 : BitVec 32 := 24#32
  let v602 : Index := Scalar.indexCast c24_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_239 : BitVec 32 := 0#32
  let v586 : BitVec 1 := Scalar.cmpi .sgt v51 c0_i32_239
  let v587 : BitVec 32 := Scalar.extui v586
  let c0_i32_240 : BitVec 32 := 0#32
  let v588 : BitVec 1 := Scalar.cmpi .slt v51 c0_i32_240
  let v589 : BitVec 32 := Scalar.extui v588
  let v590 : BitVec 32 := Scalar.subi v587 v589
  let c8_i32_238 : BitVec 32 := 8#32
  let c0_i32_241 : BitVec 32 := 0#32
  let v591 : BitVec 1 := Scalar.cmpi .sgt c8_i32_238 c0_i32_241
  let v592 : BitVec 32 := Scalar.extui v591
  let c0_i32_242 : BitVec 32 := 0#32
  let v593 : BitVec 1 := Scalar.cmpi .slt c8_i32_238 c0_i32_242
  let v594 : BitVec 32 := Scalar.extui v593
  let v595 : BitVec 32 := Scalar.subi v592 v594
  let v596 : BitVec 1 := Scalar.cmpi .ne v590 v595
  let v597 : BitVec 32 := Scalar.remsi v51 c8_i32_238
  let c0_i32_243 : BitVec 32 := 0#32
  let v598 : BitVec 1 := Scalar.cmpi .ne v597 c0_i32_243
  let v599 : BitVec 1 := Scalar.andi v596 v598
  let v585 : BitVec 32 := Scalar.divsi v51 c8_i32_238
  let c1_i32_244 : BitVec 32 := 1#32
  let v600 : BitVec 32 := Scalar.subi v585 c1_i32_244
  let v601 : BitVec 32 := Scalar.select v599 v600 v585
  let v603 : Index := Scalar.indexCast v601
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v604 : Index := Scalar.indexCast v80
  ![24, v603.toNat, v604.toNat]
def k0_off28 (k0_t1 : Fin k0_t1_loop.trips) : Fin 3 → Nat :=
  let c25_i32 : BitVec 32 := 25#32
  let v623 : Index := Scalar.indexCast c25_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_246 : BitVec 32 := 0#32
  let v607 : BitVec 1 := Scalar.cmpi .sgt v51 c0_i32_246
  let v608 : BitVec 32 := Scalar.extui v607
  let c0_i32_247 : BitVec 32 := 0#32
  let v609 : BitVec 1 := Scalar.cmpi .slt v51 c0_i32_247
  let v610 : BitVec 32 := Scalar.extui v609
  let v611 : BitVec 32 := Scalar.subi v608 v610
  let c8_i32_245 : BitVec 32 := 8#32
  let c0_i32_248 : BitVec 32 := 0#32
  let v612 : BitVec 1 := Scalar.cmpi .sgt c8_i32_245 c0_i32_248
  let v613 : BitVec 32 := Scalar.extui v612
  let c0_i32_249 : BitVec 32 := 0#32
  let v614 : BitVec 1 := Scalar.cmpi .slt c8_i32_245 c0_i32_249
  let v615 : BitVec 32 := Scalar.extui v614
  let v616 : BitVec 32 := Scalar.subi v613 v615
  let v617 : BitVec 1 := Scalar.cmpi .ne v611 v616
  let v618 : BitVec 32 := Scalar.remsi v51 c8_i32_245
  let c0_i32_250 : BitVec 32 := 0#32
  let v619 : BitVec 1 := Scalar.cmpi .ne v618 c0_i32_250
  let v620 : BitVec 1 := Scalar.andi v617 v619
  let v606 : BitVec 32 := Scalar.divsi v51 c8_i32_245
  let c1_i32_251 : BitVec 32 := 1#32
  let v621 : BitVec 32 := Scalar.subi v606 c1_i32_251
  let v622 : BitVec 32 := Scalar.select v620 v621 v606
  let v624 : Index := Scalar.indexCast v622
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v625 : Index := Scalar.indexCast v80
  ![25, v624.toNat, v625.toNat]
def k0_off29 (k0_t1 : Fin k0_t1_loop.trips) : Fin 3 → Nat :=
  let c26_i32 : BitVec 32 := 26#32
  let v644 : Index := Scalar.indexCast c26_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_253 : BitVec 32 := 0#32
  let v628 : BitVec 1 := Scalar.cmpi .sgt v51 c0_i32_253
  let v629 : BitVec 32 := Scalar.extui v628
  let c0_i32_254 : BitVec 32 := 0#32
  let v630 : BitVec 1 := Scalar.cmpi .slt v51 c0_i32_254
  let v631 : BitVec 32 := Scalar.extui v630
  let v632 : BitVec 32 := Scalar.subi v629 v631
  let c8_i32_252 : BitVec 32 := 8#32
  let c0_i32_255 : BitVec 32 := 0#32
  let v633 : BitVec 1 := Scalar.cmpi .sgt c8_i32_252 c0_i32_255
  let v634 : BitVec 32 := Scalar.extui v633
  let c0_i32_256 : BitVec 32 := 0#32
  let v635 : BitVec 1 := Scalar.cmpi .slt c8_i32_252 c0_i32_256
  let v636 : BitVec 32 := Scalar.extui v635
  let v637 : BitVec 32 := Scalar.subi v634 v636
  let v638 : BitVec 1 := Scalar.cmpi .ne v632 v637
  let v639 : BitVec 32 := Scalar.remsi v51 c8_i32_252
  let c0_i32_257 : BitVec 32 := 0#32
  let v640 : BitVec 1 := Scalar.cmpi .ne v639 c0_i32_257
  let v641 : BitVec 1 := Scalar.andi v638 v640
  let v627 : BitVec 32 := Scalar.divsi v51 c8_i32_252
  let c1_i32_258 : BitVec 32 := 1#32
  let v642 : BitVec 32 := Scalar.subi v627 c1_i32_258
  let v643 : BitVec 32 := Scalar.select v641 v642 v627
  let v645 : Index := Scalar.indexCast v643
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v646 : Index := Scalar.indexCast v80
  ![26, v645.toNat, v646.toNat]
def k0_off30 (k0_t1 : Fin k0_t1_loop.trips) : Fin 3 → Nat :=
  let c27_i32 : BitVec 32 := 27#32
  let v665 : Index := Scalar.indexCast c27_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_260 : BitVec 32 := 0#32
  let v649 : BitVec 1 := Scalar.cmpi .sgt v51 c0_i32_260
  let v650 : BitVec 32 := Scalar.extui v649
  let c0_i32_261 : BitVec 32 := 0#32
  let v651 : BitVec 1 := Scalar.cmpi .slt v51 c0_i32_261
  let v652 : BitVec 32 := Scalar.extui v651
  let v653 : BitVec 32 := Scalar.subi v650 v652
  let c8_i32_259 : BitVec 32 := 8#32
  let c0_i32_262 : BitVec 32 := 0#32
  let v654 : BitVec 1 := Scalar.cmpi .sgt c8_i32_259 c0_i32_262
  let v655 : BitVec 32 := Scalar.extui v654
  let c0_i32_263 : BitVec 32 := 0#32
  let v656 : BitVec 1 := Scalar.cmpi .slt c8_i32_259 c0_i32_263
  let v657 : BitVec 32 := Scalar.extui v656
  let v658 : BitVec 32 := Scalar.subi v655 v657
  let v659 : BitVec 1 := Scalar.cmpi .ne v653 v658
  let v660 : BitVec 32 := Scalar.remsi v51 c8_i32_259
  let c0_i32_264 : BitVec 32 := 0#32
  let v661 : BitVec 1 := Scalar.cmpi .ne v660 c0_i32_264
  let v662 : BitVec 1 := Scalar.andi v659 v661
  let v648 : BitVec 32 := Scalar.divsi v51 c8_i32_259
  let c1_i32_265 : BitVec 32 := 1#32
  let v663 : BitVec 32 := Scalar.subi v648 c1_i32_265
  let v664 : BitVec 32 := Scalar.select v662 v663 v648
  let v666 : Index := Scalar.indexCast v664
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v667 : Index := Scalar.indexCast v80
  ![27, v666.toNat, v667.toNat]
def k0_off31 (k0_t1 : Fin k0_t1_loop.trips) : Fin 3 → Nat :=
  let c28_i32 : BitVec 32 := 28#32
  let v686 : Index := Scalar.indexCast c28_i32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_267 : BitVec 32 := 0#32
  let v670 : BitVec 1 := Scalar.cmpi .sgt v51 c0_i32_267
  let v671 : BitVec 32 := Scalar.extui v670
  let c0_i32_268 : BitVec 32 := 0#32
  let v672 : BitVec 1 := Scalar.cmpi .slt v51 c0_i32_268
  let v673 : BitVec 32 := Scalar.extui v672
  let v674 : BitVec 32 := Scalar.subi v671 v673
  let c8_i32_266 : BitVec 32 := 8#32
  let c0_i32_269 : BitVec 32 := 0#32
  let v675 : BitVec 1 := Scalar.cmpi .sgt c8_i32_266 c0_i32_269
  let v676 : BitVec 32 := Scalar.extui v675
  let c0_i32_270 : BitVec 32 := 0#32
  let v677 : BitVec 1 := Scalar.cmpi .slt c8_i32_266 c0_i32_270
  let v678 : BitVec 32 := Scalar.extui v677
  let v679 : BitVec 32 := Scalar.subi v676 v678
  let v680 : BitVec 1 := Scalar.cmpi .ne v674 v679
  let v681 : BitVec 32 := Scalar.remsi v51 c8_i32_266
  let c0_i32_271 : BitVec 32 := 0#32
  let v682 : BitVec 1 := Scalar.cmpi .ne v681 c0_i32_271
  let v683 : BitVec 1 := Scalar.andi v680 v682
  let v669 : BitVec 32 := Scalar.divsi v51 c8_i32_266
  let c1_i32_272 : BitVec 32 := 1#32
  let v684 : BitVec 32 := Scalar.subi v669 c1_i32_272
  let v685 : BitVec 32 := Scalar.select v683 v684 v669
  let v687 : Index := Scalar.indexCast v685
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v688 : Index := Scalar.indexCast v80
  ![28, v687.toNat, v688.toNat]
def k0_off32 (k0_t1 : Fin k0_t1_loop.trips) : Fin 2 → Nat :=
  let c0_i32_58 : BitVec 32 := 0#32
  let c0_i32_50 : BitVec 32 := 0#32
  let c0_i32_28 : BitVec 32 := 0#32
  let c1_i32_29 : BitVec 32 := 1#32
  let arg13 : BitVec 32 := Scf.iv c0_i32_28 c1_i32_29 k0_t1
  let c1_i32_49 : BitVec 32 := 1#32
  let v50 : BitVec 32 := Scalar.muli arg13 c1_i32_49
  let v51 : BitVec 32 := Scalar.addi c0_i32_50 v50
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c8_i32_51 : BitVec 32 := 8#32
  let c0_i32_54 : BitVec 32 := 0#32
  let v58 : BitVec 1 := Scalar.cmpi .sgt c8_i32_51 c0_i32_54
  let v59 : BitVec 32 := Scalar.extui v58
  let c0_i32_55 : BitVec 32 := 0#32
  let v60 : BitVec 1 := Scalar.cmpi .slt c8_i32_51 c0_i32_55
  let v61 : BitVec 32 := Scalar.extui v60
  let v62 : BitVec 32 := Scalar.subi v59 v61
  let v63 : BitVec 1 := Scalar.cmpi .ne v57 v62
  let v64 : BitVec 32 := Scalar.remsi v51 c8_i32_51
  let c0_i32_56 : BitVec 32 := 0#32
  let v65 : BitVec 1 := Scalar.cmpi .ne v64 c0_i32_56
  let v66 : BitVec 1 := Scalar.andi v63 v65
  let v52 : BitVec 32 := Scalar.divsi v51 c8_i32_51
  let c1_i32_57 : BitVec 32 := 1#32
  let v67 : BitVec 32 := Scalar.subi v52 c1_i32_57
  let v68 : BitVec 32 := Scalar.select v66 v67 v52
  let v69 : BitVec 32 := Scalar.addi c0_i32_58 v68
  let v803 : Index := Scalar.indexCast v69
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v804 : Index := Scalar.indexCast v80
  ![v803.toNat, v804.toNat]
@[reducible] def k0_t2_loop : Scf.Loop 32 :=
  let c0_i32_31 : BitVec 32 := 0#32
  let c64_i32_32 : BitVec 32 := 64#32
  let v43 : BitVec 32 := Scalar.addi c0_i32_31 c64_i32_32
  let c1_i32_33 : BitVec 32 := 1#32
  ⟨c0_i32_31, v43, c1_i32_33⟩
def k0_off33 (k0_t2 : Fin k0_t2_loop.trips) : Fin 2 → Nat :=
  let c0_i32_58 : BitVec 32 := 0#32
  let c0_i32_50 : BitVec 32 := 0#32
  let c0_i32_31 : BitVec 32 := 0#32
  let c1_i32_33 : BitVec 32 := 1#32
  let arg13 : BitVec 32 := Scf.iv c0_i32_31 c1_i32_33 k0_t2
  let c1_i32_49 : BitVec 32 := 1#32
  let v50 : BitVec 32 := Scalar.muli arg13 c1_i32_49
  let v51 : BitVec 32 := Scalar.addi c0_i32_50 v50
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c8_i32_51 : BitVec 32 := 8#32
  let c0_i32_54 : BitVec 32 := 0#32
  let v58 : BitVec 1 := Scalar.cmpi .sgt c8_i32_51 c0_i32_54
  let v59 : BitVec 32 := Scalar.extui v58
  let c0_i32_55 : BitVec 32 := 0#32
  let v60 : BitVec 1 := Scalar.cmpi .slt c8_i32_51 c0_i32_55
  let v61 : BitVec 32 := Scalar.extui v60
  let v62 : BitVec 32 := Scalar.subi v59 v61
  let v63 : BitVec 1 := Scalar.cmpi .ne v57 v62
  let v64 : BitVec 32 := Scalar.remsi v51 c8_i32_51
  let c0_i32_56 : BitVec 32 := 0#32
  let v65 : BitVec 1 := Scalar.cmpi .ne v64 c0_i32_56
  let v66 : BitVec 1 := Scalar.andi v63 v65
  let v52 : BitVec 32 := Scalar.divsi v51 c8_i32_51
  let c1_i32_57 : BitVec 32 := 1#32
  let v67 : BitVec 32 := Scalar.subi v52 c1_i32_57
  let v68 : BitVec 32 := Scalar.select v66 v67 v52
  let v69 : BitVec 32 := Scalar.addi c0_i32_58 v68
  let v81 : Index := Scalar.indexCast v69
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v82 : Index := Scalar.indexCast v80
  ![v81.toNat, v82.toNat]

def k0_chk1 (v93 : IVec S16 32) (v95 : IVec S16 32) : Prop :=
  (∀ a x, ((![v93, v95] : Fin 2 → IVec S16 32) a x).toNat < S16x128.size a)
theorem k0_idx1_inb : ∀ (v93 : IVec S16 32) (v95 : IVec S16 32) (k0_hw1 : k0_chk1 v93 v95), ∀ a x, ((![v93, v95] : Fin 2 → IVec S16 32) a x).toNat < S16x128.size a := fun v93 v95 k0_hw1 => k0_hw1
def k0_off34 (k0_t2 : Fin k0_t2_loop.trips) : Fin 2 → Nat :=
  let c0_i32_58 : BitVec 32 := 0#32
  let c0_i32_50 : BitVec 32 := 0#32
  let c0_i32_31 : BitVec 32 := 0#32
  let c1_i32_33 : BitVec 32 := 1#32
  let arg13 : BitVec 32 := Scf.iv c0_i32_31 c1_i32_33 k0_t2
  let c1_i32_49 : BitVec 32 := 1#32
  let v50 : BitVec 32 := Scalar.muli arg13 c1_i32_49
  let v51 : BitVec 32 := Scalar.addi c0_i32_50 v50
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c8_i32_51 : BitVec 32 := 8#32
  let c0_i32_54 : BitVec 32 := 0#32
  let v58 : BitVec 1 := Scalar.cmpi .sgt c8_i32_51 c0_i32_54
  let v59 : BitVec 32 := Scalar.extui v58
  let c0_i32_55 : BitVec 32 := 0#32
  let v60 : BitVec 1 := Scalar.cmpi .slt c8_i32_51 c0_i32_55
  let v61 : BitVec 32 := Scalar.extui v60
  let v62 : BitVec 32 := Scalar.subi v59 v61
  let v63 : BitVec 1 := Scalar.cmpi .ne v57 v62
  let v64 : BitVec 32 := Scalar.remsi v51 c8_i32_51
  let c0_i32_56 : BitVec 32 := 0#32
  let v65 : BitVec 1 := Scalar.cmpi .ne v64 c0_i32_56
  let v66 : BitVec 1 := Scalar.andi v63 v65
  let v52 : BitVec 32 := Scalar.divsi v51 c8_i32_51
  let c1_i32_57 : BitVec 32 := 1#32
  let v67 : BitVec 32 := Scalar.subi v52 c1_i32_57
  let v68 : BitVec 32 := Scalar.select v66 v67 v52
  let v69 : BitVec 32 := Scalar.addi c0_i32_58 v68
  let v105 : Index := Scalar.indexCast v69
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v106 : Index := Scalar.indexCast v80
  ![v105.toNat, v106.toNat]
@[reducible] def k0_t3_loop : Scf.Loop 32 :=
  let c0_i32_41 : BitVec 32 := 0#32
  let c64_i32_42 : BitVec 32 := 64#32
  let v48 : BitVec 32 := Scalar.addi c0_i32_41 c64_i32_42
  let c1_i32_43 : BitVec 32 := 1#32
  ⟨c0_i32_41, v48, c1_i32_43⟩
def k0_off35 (k0_t3 : Fin k0_t3_loop.trips) : Fin 3 → Nat :=
  let c0_i32_72 : BitVec 32 := 0#32
  let v98 : Index := Scalar.indexCast c0_i32_72
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_66 : BitVec 32 := 0#32
  let v82 : BitVec 1 := Scalar.cmpi .sgt v51 c0_i32_66
  let v83 : BitVec 32 := Scalar.extui v82
  let c0_i32_67 : BitVec 32 := 0#32
  let v84 : BitVec 1 := Scalar.cmpi .slt v51 c0_i32_67
  let v85 : BitVec 32 := Scalar.extui v84
  let v86 : BitVec 32 := Scalar.subi v83 v85
  let c8_i32_65 : BitVec 32 := 8#32
  let c0_i32_68 : BitVec 32 := 0#32
  let v87 : BitVec 1 := Scalar.cmpi .sgt c8_i32_65 c0_i32_68
  let v88 : BitVec 32 := Scalar.extui v87
  let c0_i32_69 : BitVec 32 := 0#32
  let v89 : BitVec 1 := Scalar.cmpi .slt c8_i32_65 c0_i32_69
  let v90 : BitVec 32 := Scalar.extui v89
  let v91 : BitVec 32 := Scalar.subi v88 v90
  let v92 : BitVec 1 := Scalar.cmpi .ne v86 v91
  let v93 : BitVec 32 := Scalar.remsi v51 c8_i32_65
  let c0_i32_70 : BitVec 32 := 0#32
  let v94 : BitVec 1 := Scalar.cmpi .ne v93 c0_i32_70
  let v95 : BitVec 1 := Scalar.andi v92 v94
  let v81 : BitVec 32 := Scalar.divsi v51 c8_i32_65
  let c1_i32_71 : BitVec 32 := 1#32
  let v96 : BitVec 32 := Scalar.subi v81 c1_i32_71
  let v97 : BitVec 32 := Scalar.select v95 v96 v81
  let v99 : Index := Scalar.indexCast v97
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v100 : Index := Scalar.indexCast v80
  ![0, v99.toNat, v100.toNat]
def k0_off36 (k0_t3 : Fin k0_t3_loop.trips) : Fin 3 → Nat :=
  let c1_i32_80 : BitVec 32 := 1#32
  let v119 : Index := Scalar.indexCast c1_i32_80
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_74 : BitVec 32 := 0#32
  let v103 : BitVec 1 := Scalar.cmpi .sgt v51 c0_i32_74
  let v104 : BitVec 32 := Scalar.extui v103
  let c0_i32_75 : BitVec 32 := 0#32
  let v105 : BitVec 1 := Scalar.cmpi .slt v51 c0_i32_75
  let v106 : BitVec 32 := Scalar.extui v105
  let v107 : BitVec 32 := Scalar.subi v104 v106
  let c8_i32_73 : BitVec 32 := 8#32
  let c0_i32_76 : BitVec 32 := 0#32
  let v108 : BitVec 1 := Scalar.cmpi .sgt c8_i32_73 c0_i32_76
  let v109 : BitVec 32 := Scalar.extui v108
  let c0_i32_77 : BitVec 32 := 0#32
  let v110 : BitVec 1 := Scalar.cmpi .slt c8_i32_73 c0_i32_77
  let v111 : BitVec 32 := Scalar.extui v110
  let v112 : BitVec 32 := Scalar.subi v109 v111
  let v113 : BitVec 1 := Scalar.cmpi .ne v107 v112
  let v114 : BitVec 32 := Scalar.remsi v51 c8_i32_73
  let c0_i32_78 : BitVec 32 := 0#32
  let v115 : BitVec 1 := Scalar.cmpi .ne v114 c0_i32_78
  let v116 : BitVec 1 := Scalar.andi v113 v115
  let v102 : BitVec 32 := Scalar.divsi v51 c8_i32_73
  let c1_i32_79 : BitVec 32 := 1#32
  let v117 : BitVec 32 := Scalar.subi v102 c1_i32_79
  let v118 : BitVec 32 := Scalar.select v116 v117 v102
  let v120 : Index := Scalar.indexCast v118
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v121 : Index := Scalar.indexCast v80
  ![1, v120.toNat, v121.toNat]
def k0_off37 (k0_t3 : Fin k0_t3_loop.trips) : Fin 3 → Nat :=
  let c2_i32_88 : BitVec 32 := 2#32
  let v140 : Index := Scalar.indexCast c2_i32_88
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_82 : BitVec 32 := 0#32
  let v124 : BitVec 1 := Scalar.cmpi .sgt v51 c0_i32_82
  let v125 : BitVec 32 := Scalar.extui v124
  let c0_i32_83 : BitVec 32 := 0#32
  let v126 : BitVec 1 := Scalar.cmpi .slt v51 c0_i32_83
  let v127 : BitVec 32 := Scalar.extui v126
  let v128 : BitVec 32 := Scalar.subi v125 v127
  let c8_i32_81 : BitVec 32 := 8#32
  let c0_i32_84 : BitVec 32 := 0#32
  let v129 : BitVec 1 := Scalar.cmpi .sgt c8_i32_81 c0_i32_84
  let v130 : BitVec 32 := Scalar.extui v129
  let c0_i32_85 : BitVec 32 := 0#32
  let v131 : BitVec 1 := Scalar.cmpi .slt c8_i32_81 c0_i32_85
  let v132 : BitVec 32 := Scalar.extui v131
  let v133 : BitVec 32 := Scalar.subi v130 v132
  let v134 : BitVec 1 := Scalar.cmpi .ne v128 v133
  let v135 : BitVec 32 := Scalar.remsi v51 c8_i32_81
  let c0_i32_86 : BitVec 32 := 0#32
  let v136 : BitVec 1 := Scalar.cmpi .ne v135 c0_i32_86
  let v137 : BitVec 1 := Scalar.andi v134 v136
  let v123 : BitVec 32 := Scalar.divsi v51 c8_i32_81
  let c1_i32_87 : BitVec 32 := 1#32
  let v138 : BitVec 32 := Scalar.subi v123 c1_i32_87
  let v139 : BitVec 32 := Scalar.select v137 v138 v123
  let v141 : Index := Scalar.indexCast v139
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v142 : Index := Scalar.indexCast v80
  ![2, v141.toNat, v142.toNat]
def k0_off38 (k0_t3 : Fin k0_t3_loop.trips) : Fin 3 → Nat :=
  let c3_i32 : BitVec 32 := 3#32
  let v161 : Index := Scalar.indexCast c3_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_90 : BitVec 32 := 0#32
  let v145 : BitVec 1 := Scalar.cmpi .sgt v51 c0_i32_90
  let v146 : BitVec 32 := Scalar.extui v145
  let c0_i32_91 : BitVec 32 := 0#32
  let v147 : BitVec 1 := Scalar.cmpi .slt v51 c0_i32_91
  let v148 : BitVec 32 := Scalar.extui v147
  let v149 : BitVec 32 := Scalar.subi v146 v148
  let c8_i32_89 : BitVec 32 := 8#32
  let c0_i32_92 : BitVec 32 := 0#32
  let v150 : BitVec 1 := Scalar.cmpi .sgt c8_i32_89 c0_i32_92
  let v151 : BitVec 32 := Scalar.extui v150
  let c0_i32_93 : BitVec 32 := 0#32
  let v152 : BitVec 1 := Scalar.cmpi .slt c8_i32_89 c0_i32_93
  let v153 : BitVec 32 := Scalar.extui v152
  let v154 : BitVec 32 := Scalar.subi v151 v153
  let v155 : BitVec 1 := Scalar.cmpi .ne v149 v154
  let v156 : BitVec 32 := Scalar.remsi v51 c8_i32_89
  let c0_i32_94 : BitVec 32 := 0#32
  let v157 : BitVec 1 := Scalar.cmpi .ne v156 c0_i32_94
  let v158 : BitVec 1 := Scalar.andi v155 v157
  let v144 : BitVec 32 := Scalar.divsi v51 c8_i32_89
  let c1_i32_95 : BitVec 32 := 1#32
  let v159 : BitVec 32 := Scalar.subi v144 c1_i32_95
  let v160 : BitVec 32 := Scalar.select v158 v159 v144
  let v162 : Index := Scalar.indexCast v160
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v163 : Index := Scalar.indexCast v80
  ![3, v162.toNat, v163.toNat]
def k0_off39 (k0_t3 : Fin k0_t3_loop.trips) : Fin 3 → Nat :=
  let c4_i32 : BitVec 32 := 4#32
  let v182 : Index := Scalar.indexCast c4_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_97 : BitVec 32 := 0#32
  let v166 : BitVec 1 := Scalar.cmpi .sgt v51 c0_i32_97
  let v167 : BitVec 32 := Scalar.extui v166
  let c0_i32_98 : BitVec 32 := 0#32
  let v168 : BitVec 1 := Scalar.cmpi .slt v51 c0_i32_98
  let v169 : BitVec 32 := Scalar.extui v168
  let v170 : BitVec 32 := Scalar.subi v167 v169
  let c8_i32_96 : BitVec 32 := 8#32
  let c0_i32_99 : BitVec 32 := 0#32
  let v171 : BitVec 1 := Scalar.cmpi .sgt c8_i32_96 c0_i32_99
  let v172 : BitVec 32 := Scalar.extui v171
  let c0_i32_100 : BitVec 32 := 0#32
  let v173 : BitVec 1 := Scalar.cmpi .slt c8_i32_96 c0_i32_100
  let v174 : BitVec 32 := Scalar.extui v173
  let v175 : BitVec 32 := Scalar.subi v172 v174
  let v176 : BitVec 1 := Scalar.cmpi .ne v170 v175
  let v177 : BitVec 32 := Scalar.remsi v51 c8_i32_96
  let c0_i32_101 : BitVec 32 := 0#32
  let v178 : BitVec 1 := Scalar.cmpi .ne v177 c0_i32_101
  let v179 : BitVec 1 := Scalar.andi v176 v178
  let v165 : BitVec 32 := Scalar.divsi v51 c8_i32_96
  let c1_i32_102 : BitVec 32 := 1#32
  let v180 : BitVec 32 := Scalar.subi v165 c1_i32_102
  let v181 : BitVec 32 := Scalar.select v179 v180 v165
  let v183 : Index := Scalar.indexCast v181
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v184 : Index := Scalar.indexCast v80
  ![4, v183.toNat, v184.toNat]
def k0_off40 (k0_t3 : Fin k0_t3_loop.trips) : Fin 3 → Nat :=
  let c5_i32 : BitVec 32 := 5#32
  let v203 : Index := Scalar.indexCast c5_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_104 : BitVec 32 := 0#32
  let v187 : BitVec 1 := Scalar.cmpi .sgt v51 c0_i32_104
  let v188 : BitVec 32 := Scalar.extui v187
  let c0_i32_105 : BitVec 32 := 0#32
  let v189 : BitVec 1 := Scalar.cmpi .slt v51 c0_i32_105
  let v190 : BitVec 32 := Scalar.extui v189
  let v191 : BitVec 32 := Scalar.subi v188 v190
  let c8_i32_103 : BitVec 32 := 8#32
  let c0_i32_106 : BitVec 32 := 0#32
  let v192 : BitVec 1 := Scalar.cmpi .sgt c8_i32_103 c0_i32_106
  let v193 : BitVec 32 := Scalar.extui v192
  let c0_i32_107 : BitVec 32 := 0#32
  let v194 : BitVec 1 := Scalar.cmpi .slt c8_i32_103 c0_i32_107
  let v195 : BitVec 32 := Scalar.extui v194
  let v196 : BitVec 32 := Scalar.subi v193 v195
  let v197 : BitVec 1 := Scalar.cmpi .ne v191 v196
  let v198 : BitVec 32 := Scalar.remsi v51 c8_i32_103
  let c0_i32_108 : BitVec 32 := 0#32
  let v199 : BitVec 1 := Scalar.cmpi .ne v198 c0_i32_108
  let v200 : BitVec 1 := Scalar.andi v197 v199
  let v186 : BitVec 32 := Scalar.divsi v51 c8_i32_103
  let c1_i32_109 : BitVec 32 := 1#32
  let v201 : BitVec 32 := Scalar.subi v186 c1_i32_109
  let v202 : BitVec 32 := Scalar.select v200 v201 v186
  let v204 : Index := Scalar.indexCast v202
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v205 : Index := Scalar.indexCast v80
  ![5, v204.toNat, v205.toNat]
def k0_off41 (k0_t3 : Fin k0_t3_loop.trips) : Fin 3 → Nat :=
  let c6_i32 : BitVec 32 := 6#32
  let v224 : Index := Scalar.indexCast c6_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_111 : BitVec 32 := 0#32
  let v208 : BitVec 1 := Scalar.cmpi .sgt v51 c0_i32_111
  let v209 : BitVec 32 := Scalar.extui v208
  let c0_i32_112 : BitVec 32 := 0#32
  let v210 : BitVec 1 := Scalar.cmpi .slt v51 c0_i32_112
  let v211 : BitVec 32 := Scalar.extui v210
  let v212 : BitVec 32 := Scalar.subi v209 v211
  let c8_i32_110 : BitVec 32 := 8#32
  let c0_i32_113 : BitVec 32 := 0#32
  let v213 : BitVec 1 := Scalar.cmpi .sgt c8_i32_110 c0_i32_113
  let v214 : BitVec 32 := Scalar.extui v213
  let c0_i32_114 : BitVec 32 := 0#32
  let v215 : BitVec 1 := Scalar.cmpi .slt c8_i32_110 c0_i32_114
  let v216 : BitVec 32 := Scalar.extui v215
  let v217 : BitVec 32 := Scalar.subi v214 v216
  let v218 : BitVec 1 := Scalar.cmpi .ne v212 v217
  let v219 : BitVec 32 := Scalar.remsi v51 c8_i32_110
  let c0_i32_115 : BitVec 32 := 0#32
  let v220 : BitVec 1 := Scalar.cmpi .ne v219 c0_i32_115
  let v221 : BitVec 1 := Scalar.andi v218 v220
  let v207 : BitVec 32 := Scalar.divsi v51 c8_i32_110
  let c1_i32_116 : BitVec 32 := 1#32
  let v222 : BitVec 32 := Scalar.subi v207 c1_i32_116
  let v223 : BitVec 32 := Scalar.select v221 v222 v207
  let v225 : Index := Scalar.indexCast v223
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v226 : Index := Scalar.indexCast v80
  ![6, v225.toNat, v226.toNat]
def k0_off42 (k0_t3 : Fin k0_t3_loop.trips) : Fin 3 → Nat :=
  let c7_i32 : BitVec 32 := 7#32
  let v245 : Index := Scalar.indexCast c7_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_118 : BitVec 32 := 0#32
  let v229 : BitVec 1 := Scalar.cmpi .sgt v51 c0_i32_118
  let v230 : BitVec 32 := Scalar.extui v229
  let c0_i32_119 : BitVec 32 := 0#32
  let v231 : BitVec 1 := Scalar.cmpi .slt v51 c0_i32_119
  let v232 : BitVec 32 := Scalar.extui v231
  let v233 : BitVec 32 := Scalar.subi v230 v232
  let c8_i32_117 : BitVec 32 := 8#32
  let c0_i32_120 : BitVec 32 := 0#32
  let v234 : BitVec 1 := Scalar.cmpi .sgt c8_i32_117 c0_i32_120
  let v235 : BitVec 32 := Scalar.extui v234
  let c0_i32_121 : BitVec 32 := 0#32
  let v236 : BitVec 1 := Scalar.cmpi .slt c8_i32_117 c0_i32_121
  let v237 : BitVec 32 := Scalar.extui v236
  let v238 : BitVec 32 := Scalar.subi v235 v237
  let v239 : BitVec 1 := Scalar.cmpi .ne v233 v238
  let v240 : BitVec 32 := Scalar.remsi v51 c8_i32_117
  let c0_i32_122 : BitVec 32 := 0#32
  let v241 : BitVec 1 := Scalar.cmpi .ne v240 c0_i32_122
  let v242 : BitVec 1 := Scalar.andi v239 v241
  let v228 : BitVec 32 := Scalar.divsi v51 c8_i32_117
  let c1_i32_123 : BitVec 32 := 1#32
  let v243 : BitVec 32 := Scalar.subi v228 c1_i32_123
  let v244 : BitVec 32 := Scalar.select v242 v243 v228
  let v246 : Index := Scalar.indexCast v244
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v247 : Index := Scalar.indexCast v80
  ![7, v246.toNat, v247.toNat]
def k0_off43 (k0_t3 : Fin k0_t3_loop.trips) : Fin 3 → Nat :=
  let c8_i32_131 : BitVec 32 := 8#32
  let v266 : Index := Scalar.indexCast c8_i32_131
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_125 : BitVec 32 := 0#32
  let v250 : BitVec 1 := Scalar.cmpi .sgt v51 c0_i32_125
  let v251 : BitVec 32 := Scalar.extui v250
  let c0_i32_126 : BitVec 32 := 0#32
  let v252 : BitVec 1 := Scalar.cmpi .slt v51 c0_i32_126
  let v253 : BitVec 32 := Scalar.extui v252
  let v254 : BitVec 32 := Scalar.subi v251 v253
  let c8_i32_124 : BitVec 32 := 8#32
  let c0_i32_127 : BitVec 32 := 0#32
  let v255 : BitVec 1 := Scalar.cmpi .sgt c8_i32_124 c0_i32_127
  let v256 : BitVec 32 := Scalar.extui v255
  let c0_i32_128 : BitVec 32 := 0#32
  let v257 : BitVec 1 := Scalar.cmpi .slt c8_i32_124 c0_i32_128
  let v258 : BitVec 32 := Scalar.extui v257
  let v259 : BitVec 32 := Scalar.subi v256 v258
  let v260 : BitVec 1 := Scalar.cmpi .ne v254 v259
  let v261 : BitVec 32 := Scalar.remsi v51 c8_i32_124
  let c0_i32_129 : BitVec 32 := 0#32
  let v262 : BitVec 1 := Scalar.cmpi .ne v261 c0_i32_129
  let v263 : BitVec 1 := Scalar.andi v260 v262
  let v249 : BitVec 32 := Scalar.divsi v51 c8_i32_124
  let c1_i32_130 : BitVec 32 := 1#32
  let v264 : BitVec 32 := Scalar.subi v249 c1_i32_130
  let v265 : BitVec 32 := Scalar.select v263 v264 v249
  let v267 : Index := Scalar.indexCast v265
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v268 : Index := Scalar.indexCast v80
  ![8, v267.toNat, v268.toNat]
def k0_off44 (k0_t3 : Fin k0_t3_loop.trips) : Fin 3 → Nat :=
  let c9_i32 : BitVec 32 := 9#32
  let v287 : Index := Scalar.indexCast c9_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_133 : BitVec 32 := 0#32
  let v271 : BitVec 1 := Scalar.cmpi .sgt v51 c0_i32_133
  let v272 : BitVec 32 := Scalar.extui v271
  let c0_i32_134 : BitVec 32 := 0#32
  let v273 : BitVec 1 := Scalar.cmpi .slt v51 c0_i32_134
  let v274 : BitVec 32 := Scalar.extui v273
  let v275 : BitVec 32 := Scalar.subi v272 v274
  let c8_i32_132 : BitVec 32 := 8#32
  let c0_i32_135 : BitVec 32 := 0#32
  let v276 : BitVec 1 := Scalar.cmpi .sgt c8_i32_132 c0_i32_135
  let v277 : BitVec 32 := Scalar.extui v276
  let c0_i32_136 : BitVec 32 := 0#32
  let v278 : BitVec 1 := Scalar.cmpi .slt c8_i32_132 c0_i32_136
  let v279 : BitVec 32 := Scalar.extui v278
  let v280 : BitVec 32 := Scalar.subi v277 v279
  let v281 : BitVec 1 := Scalar.cmpi .ne v275 v280
  let v282 : BitVec 32 := Scalar.remsi v51 c8_i32_132
  let c0_i32_137 : BitVec 32 := 0#32
  let v283 : BitVec 1 := Scalar.cmpi .ne v282 c0_i32_137
  let v284 : BitVec 1 := Scalar.andi v281 v283
  let v270 : BitVec 32 := Scalar.divsi v51 c8_i32_132
  let c1_i32_138 : BitVec 32 := 1#32
  let v285 : BitVec 32 := Scalar.subi v270 c1_i32_138
  let v286 : BitVec 32 := Scalar.select v284 v285 v270
  let v288 : Index := Scalar.indexCast v286
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v289 : Index := Scalar.indexCast v80
  ![9, v288.toNat, v289.toNat]
def k0_off45 (k0_t3 : Fin k0_t3_loop.trips) : Fin 3 → Nat :=
  let c10_i32 : BitVec 32 := 10#32
  let v308 : Index := Scalar.indexCast c10_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_140 : BitVec 32 := 0#32
  let v292 : BitVec 1 := Scalar.cmpi .sgt v51 c0_i32_140
  let v293 : BitVec 32 := Scalar.extui v292
  let c0_i32_141 : BitVec 32 := 0#32
  let v294 : BitVec 1 := Scalar.cmpi .slt v51 c0_i32_141
  let v295 : BitVec 32 := Scalar.extui v294
  let v296 : BitVec 32 := Scalar.subi v293 v295
  let c8_i32_139 : BitVec 32 := 8#32
  let c0_i32_142 : BitVec 32 := 0#32
  let v297 : BitVec 1 := Scalar.cmpi .sgt c8_i32_139 c0_i32_142
  let v298 : BitVec 32 := Scalar.extui v297
  let c0_i32_143 : BitVec 32 := 0#32
  let v299 : BitVec 1 := Scalar.cmpi .slt c8_i32_139 c0_i32_143
  let v300 : BitVec 32 := Scalar.extui v299
  let v301 : BitVec 32 := Scalar.subi v298 v300
  let v302 : BitVec 1 := Scalar.cmpi .ne v296 v301
  let v303 : BitVec 32 := Scalar.remsi v51 c8_i32_139
  let c0_i32_144 : BitVec 32 := 0#32
  let v304 : BitVec 1 := Scalar.cmpi .ne v303 c0_i32_144
  let v305 : BitVec 1 := Scalar.andi v302 v304
  let v291 : BitVec 32 := Scalar.divsi v51 c8_i32_139
  let c1_i32_145 : BitVec 32 := 1#32
  let v306 : BitVec 32 := Scalar.subi v291 c1_i32_145
  let v307 : BitVec 32 := Scalar.select v305 v306 v291
  let v309 : Index := Scalar.indexCast v307
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v310 : Index := Scalar.indexCast v80
  ![10, v309.toNat, v310.toNat]
def k0_off46 (k0_t3 : Fin k0_t3_loop.trips) : Fin 3 → Nat :=
  let c11_i32 : BitVec 32 := 11#32
  let v329 : Index := Scalar.indexCast c11_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_147 : BitVec 32 := 0#32
  let v313 : BitVec 1 := Scalar.cmpi .sgt v51 c0_i32_147
  let v314 : BitVec 32 := Scalar.extui v313
  let c0_i32_148 : BitVec 32 := 0#32
  let v315 : BitVec 1 := Scalar.cmpi .slt v51 c0_i32_148
  let v316 : BitVec 32 := Scalar.extui v315
  let v317 : BitVec 32 := Scalar.subi v314 v316
  let c8_i32_146 : BitVec 32 := 8#32
  let c0_i32_149 : BitVec 32 := 0#32
  let v318 : BitVec 1 := Scalar.cmpi .sgt c8_i32_146 c0_i32_149
  let v319 : BitVec 32 := Scalar.extui v318
  let c0_i32_150 : BitVec 32 := 0#32
  let v320 : BitVec 1 := Scalar.cmpi .slt c8_i32_146 c0_i32_150
  let v321 : BitVec 32 := Scalar.extui v320
  let v322 : BitVec 32 := Scalar.subi v319 v321
  let v323 : BitVec 1 := Scalar.cmpi .ne v317 v322
  let v324 : BitVec 32 := Scalar.remsi v51 c8_i32_146
  let c0_i32_151 : BitVec 32 := 0#32
  let v325 : BitVec 1 := Scalar.cmpi .ne v324 c0_i32_151
  let v326 : BitVec 1 := Scalar.andi v323 v325
  let v312 : BitVec 32 := Scalar.divsi v51 c8_i32_146
  let c1_i32_152 : BitVec 32 := 1#32
  let v327 : BitVec 32 := Scalar.subi v312 c1_i32_152
  let v328 : BitVec 32 := Scalar.select v326 v327 v312
  let v330 : Index := Scalar.indexCast v328
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v331 : Index := Scalar.indexCast v80
  ![11, v330.toNat, v331.toNat]
def k0_off47 (k0_t3 : Fin k0_t3_loop.trips) : Fin 3 → Nat :=
  let c12_i32 : BitVec 32 := 12#32
  let v350 : Index := Scalar.indexCast c12_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_154 : BitVec 32 := 0#32
  let v334 : BitVec 1 := Scalar.cmpi .sgt v51 c0_i32_154
  let v335 : BitVec 32 := Scalar.extui v334
  let c0_i32_155 : BitVec 32 := 0#32
  let v336 : BitVec 1 := Scalar.cmpi .slt v51 c0_i32_155
  let v337 : BitVec 32 := Scalar.extui v336
  let v338 : BitVec 32 := Scalar.subi v335 v337
  let c8_i32_153 : BitVec 32 := 8#32
  let c0_i32_156 : BitVec 32 := 0#32
  let v339 : BitVec 1 := Scalar.cmpi .sgt c8_i32_153 c0_i32_156
  let v340 : BitVec 32 := Scalar.extui v339
  let c0_i32_157 : BitVec 32 := 0#32
  let v341 : BitVec 1 := Scalar.cmpi .slt c8_i32_153 c0_i32_157
  let v342 : BitVec 32 := Scalar.extui v341
  let v343 : BitVec 32 := Scalar.subi v340 v342
  let v344 : BitVec 1 := Scalar.cmpi .ne v338 v343
  let v345 : BitVec 32 := Scalar.remsi v51 c8_i32_153
  let c0_i32_158 : BitVec 32 := 0#32
  let v346 : BitVec 1 := Scalar.cmpi .ne v345 c0_i32_158
  let v347 : BitVec 1 := Scalar.andi v344 v346
  let v333 : BitVec 32 := Scalar.divsi v51 c8_i32_153
  let c1_i32_159 : BitVec 32 := 1#32
  let v348 : BitVec 32 := Scalar.subi v333 c1_i32_159
  let v349 : BitVec 32 := Scalar.select v347 v348 v333
  let v351 : Index := Scalar.indexCast v349
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v352 : Index := Scalar.indexCast v80
  ![12, v351.toNat, v352.toNat]
def k0_off48 (k0_t3 : Fin k0_t3_loop.trips) : Fin 3 → Nat :=
  let c13_i32 : BitVec 32 := 13#32
  let v371 : Index := Scalar.indexCast c13_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_161 : BitVec 32 := 0#32
  let v355 : BitVec 1 := Scalar.cmpi .sgt v51 c0_i32_161
  let v356 : BitVec 32 := Scalar.extui v355
  let c0_i32_162 : BitVec 32 := 0#32
  let v357 : BitVec 1 := Scalar.cmpi .slt v51 c0_i32_162
  let v358 : BitVec 32 := Scalar.extui v357
  let v359 : BitVec 32 := Scalar.subi v356 v358
  let c8_i32_160 : BitVec 32 := 8#32
  let c0_i32_163 : BitVec 32 := 0#32
  let v360 : BitVec 1 := Scalar.cmpi .sgt c8_i32_160 c0_i32_163
  let v361 : BitVec 32 := Scalar.extui v360
  let c0_i32_164 : BitVec 32 := 0#32
  let v362 : BitVec 1 := Scalar.cmpi .slt c8_i32_160 c0_i32_164
  let v363 : BitVec 32 := Scalar.extui v362
  let v364 : BitVec 32 := Scalar.subi v361 v363
  let v365 : BitVec 1 := Scalar.cmpi .ne v359 v364
  let v366 : BitVec 32 := Scalar.remsi v51 c8_i32_160
  let c0_i32_165 : BitVec 32 := 0#32
  let v367 : BitVec 1 := Scalar.cmpi .ne v366 c0_i32_165
  let v368 : BitVec 1 := Scalar.andi v365 v367
  let v354 : BitVec 32 := Scalar.divsi v51 c8_i32_160
  let c1_i32_166 : BitVec 32 := 1#32
  let v369 : BitVec 32 := Scalar.subi v354 c1_i32_166
  let v370 : BitVec 32 := Scalar.select v368 v369 v354
  let v372 : Index := Scalar.indexCast v370
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v373 : Index := Scalar.indexCast v80
  ![13, v372.toNat, v373.toNat]
def k0_off49 (k0_t3 : Fin k0_t3_loop.trips) : Fin 3 → Nat :=
  let c14_i32 : BitVec 32 := 14#32
  let v392 : Index := Scalar.indexCast c14_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_168 : BitVec 32 := 0#32
  let v376 : BitVec 1 := Scalar.cmpi .sgt v51 c0_i32_168
  let v377 : BitVec 32 := Scalar.extui v376
  let c0_i32_169 : BitVec 32 := 0#32
  let v378 : BitVec 1 := Scalar.cmpi .slt v51 c0_i32_169
  let v379 : BitVec 32 := Scalar.extui v378
  let v380 : BitVec 32 := Scalar.subi v377 v379
  let c8_i32_167 : BitVec 32 := 8#32
  let c0_i32_170 : BitVec 32 := 0#32
  let v381 : BitVec 1 := Scalar.cmpi .sgt c8_i32_167 c0_i32_170
  let v382 : BitVec 32 := Scalar.extui v381
  let c0_i32_171 : BitVec 32 := 0#32
  let v383 : BitVec 1 := Scalar.cmpi .slt c8_i32_167 c0_i32_171
  let v384 : BitVec 32 := Scalar.extui v383
  let v385 : BitVec 32 := Scalar.subi v382 v384
  let v386 : BitVec 1 := Scalar.cmpi .ne v380 v385
  let v387 : BitVec 32 := Scalar.remsi v51 c8_i32_167
  let c0_i32_172 : BitVec 32 := 0#32
  let v388 : BitVec 1 := Scalar.cmpi .ne v387 c0_i32_172
  let v389 : BitVec 1 := Scalar.andi v386 v388
  let v375 : BitVec 32 := Scalar.divsi v51 c8_i32_167
  let c1_i32_173 : BitVec 32 := 1#32
  let v390 : BitVec 32 := Scalar.subi v375 c1_i32_173
  let v391 : BitVec 32 := Scalar.select v389 v390 v375
  let v393 : Index := Scalar.indexCast v391
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v394 : Index := Scalar.indexCast v80
  ![14, v393.toNat, v394.toNat]
def k0_off50 (k0_t3 : Fin k0_t3_loop.trips) : Fin 3 → Nat :=
  let c15_i32 : BitVec 32 := 15#32
  let v413 : Index := Scalar.indexCast c15_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_175 : BitVec 32 := 0#32
  let v397 : BitVec 1 := Scalar.cmpi .sgt v51 c0_i32_175
  let v398 : BitVec 32 := Scalar.extui v397
  let c0_i32_176 : BitVec 32 := 0#32
  let v399 : BitVec 1 := Scalar.cmpi .slt v51 c0_i32_176
  let v400 : BitVec 32 := Scalar.extui v399
  let v401 : BitVec 32 := Scalar.subi v398 v400
  let c8_i32_174 : BitVec 32 := 8#32
  let c0_i32_177 : BitVec 32 := 0#32
  let v402 : BitVec 1 := Scalar.cmpi .sgt c8_i32_174 c0_i32_177
  let v403 : BitVec 32 := Scalar.extui v402
  let c0_i32_178 : BitVec 32 := 0#32
  let v404 : BitVec 1 := Scalar.cmpi .slt c8_i32_174 c0_i32_178
  let v405 : BitVec 32 := Scalar.extui v404
  let v406 : BitVec 32 := Scalar.subi v403 v405
  let v407 : BitVec 1 := Scalar.cmpi .ne v401 v406
  let v408 : BitVec 32 := Scalar.remsi v51 c8_i32_174
  let c0_i32_179 : BitVec 32 := 0#32
  let v409 : BitVec 1 := Scalar.cmpi .ne v408 c0_i32_179
  let v410 : BitVec 1 := Scalar.andi v407 v409
  let v396 : BitVec 32 := Scalar.divsi v51 c8_i32_174
  let c1_i32_180 : BitVec 32 := 1#32
  let v411 : BitVec 32 := Scalar.subi v396 c1_i32_180
  let v412 : BitVec 32 := Scalar.select v410 v411 v396
  let v414 : Index := Scalar.indexCast v412
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v415 : Index := Scalar.indexCast v80
  ![15, v414.toNat, v415.toNat]
def k0_off51 (k0_t3 : Fin k0_t3_loop.trips) : Fin 3 → Nat :=
  let c16_i32_188 : BitVec 32 := 16#32
  let v434 : Index := Scalar.indexCast c16_i32_188
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_182 : BitVec 32 := 0#32
  let v418 : BitVec 1 := Scalar.cmpi .sgt v51 c0_i32_182
  let v419 : BitVec 32 := Scalar.extui v418
  let c0_i32_183 : BitVec 32 := 0#32
  let v420 : BitVec 1 := Scalar.cmpi .slt v51 c0_i32_183
  let v421 : BitVec 32 := Scalar.extui v420
  let v422 : BitVec 32 := Scalar.subi v419 v421
  let c8_i32_181 : BitVec 32 := 8#32
  let c0_i32_184 : BitVec 32 := 0#32
  let v423 : BitVec 1 := Scalar.cmpi .sgt c8_i32_181 c0_i32_184
  let v424 : BitVec 32 := Scalar.extui v423
  let c0_i32_185 : BitVec 32 := 0#32
  let v425 : BitVec 1 := Scalar.cmpi .slt c8_i32_181 c0_i32_185
  let v426 : BitVec 32 := Scalar.extui v425
  let v427 : BitVec 32 := Scalar.subi v424 v426
  let v428 : BitVec 1 := Scalar.cmpi .ne v422 v427
  let v429 : BitVec 32 := Scalar.remsi v51 c8_i32_181
  let c0_i32_186 : BitVec 32 := 0#32
  let v430 : BitVec 1 := Scalar.cmpi .ne v429 c0_i32_186
  let v431 : BitVec 1 := Scalar.andi v428 v430
  let v417 : BitVec 32 := Scalar.divsi v51 c8_i32_181
  let c1_i32_187 : BitVec 32 := 1#32
  let v432 : BitVec 32 := Scalar.subi v417 c1_i32_187
  let v433 : BitVec 32 := Scalar.select v431 v432 v417
  let v435 : Index := Scalar.indexCast v433
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v436 : Index := Scalar.indexCast v80
  ![16, v435.toNat, v436.toNat]
def k0_off52 (k0_t3 : Fin k0_t3_loop.trips) : Fin 3 → Nat :=
  let c17_i32 : BitVec 32 := 17#32
  let v455 : Index := Scalar.indexCast c17_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_190 : BitVec 32 := 0#32
  let v439 : BitVec 1 := Scalar.cmpi .sgt v51 c0_i32_190
  let v440 : BitVec 32 := Scalar.extui v439
  let c0_i32_191 : BitVec 32 := 0#32
  let v441 : BitVec 1 := Scalar.cmpi .slt v51 c0_i32_191
  let v442 : BitVec 32 := Scalar.extui v441
  let v443 : BitVec 32 := Scalar.subi v440 v442
  let c8_i32_189 : BitVec 32 := 8#32
  let c0_i32_192 : BitVec 32 := 0#32
  let v444 : BitVec 1 := Scalar.cmpi .sgt c8_i32_189 c0_i32_192
  let v445 : BitVec 32 := Scalar.extui v444
  let c0_i32_193 : BitVec 32 := 0#32
  let v446 : BitVec 1 := Scalar.cmpi .slt c8_i32_189 c0_i32_193
  let v447 : BitVec 32 := Scalar.extui v446
  let v448 : BitVec 32 := Scalar.subi v445 v447
  let v449 : BitVec 1 := Scalar.cmpi .ne v443 v448
  let v450 : BitVec 32 := Scalar.remsi v51 c8_i32_189
  let c0_i32_194 : BitVec 32 := 0#32
  let v451 : BitVec 1 := Scalar.cmpi .ne v450 c0_i32_194
  let v452 : BitVec 1 := Scalar.andi v449 v451
  let v438 : BitVec 32 := Scalar.divsi v51 c8_i32_189
  let c1_i32_195 : BitVec 32 := 1#32
  let v453 : BitVec 32 := Scalar.subi v438 c1_i32_195
  let v454 : BitVec 32 := Scalar.select v452 v453 v438
  let v456 : Index := Scalar.indexCast v454
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v457 : Index := Scalar.indexCast v80
  ![17, v456.toNat, v457.toNat]
def k0_off53 (k0_t3 : Fin k0_t3_loop.trips) : Fin 3 → Nat :=
  let c18_i32 : BitVec 32 := 18#32
  let v476 : Index := Scalar.indexCast c18_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_197 : BitVec 32 := 0#32
  let v460 : BitVec 1 := Scalar.cmpi .sgt v51 c0_i32_197
  let v461 : BitVec 32 := Scalar.extui v460
  let c0_i32_198 : BitVec 32 := 0#32
  let v462 : BitVec 1 := Scalar.cmpi .slt v51 c0_i32_198
  let v463 : BitVec 32 := Scalar.extui v462
  let v464 : BitVec 32 := Scalar.subi v461 v463
  let c8_i32_196 : BitVec 32 := 8#32
  let c0_i32_199 : BitVec 32 := 0#32
  let v465 : BitVec 1 := Scalar.cmpi .sgt c8_i32_196 c0_i32_199
  let v466 : BitVec 32 := Scalar.extui v465
  let c0_i32_200 : BitVec 32 := 0#32
  let v467 : BitVec 1 := Scalar.cmpi .slt c8_i32_196 c0_i32_200
  let v468 : BitVec 32 := Scalar.extui v467
  let v469 : BitVec 32 := Scalar.subi v466 v468
  let v470 : BitVec 1 := Scalar.cmpi .ne v464 v469
  let v471 : BitVec 32 := Scalar.remsi v51 c8_i32_196
  let c0_i32_201 : BitVec 32 := 0#32
  let v472 : BitVec 1 := Scalar.cmpi .ne v471 c0_i32_201
  let v473 : BitVec 1 := Scalar.andi v470 v472
  let v459 : BitVec 32 := Scalar.divsi v51 c8_i32_196
  let c1_i32_202 : BitVec 32 := 1#32
  let v474 : BitVec 32 := Scalar.subi v459 c1_i32_202
  let v475 : BitVec 32 := Scalar.select v473 v474 v459
  let v477 : Index := Scalar.indexCast v475
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v478 : Index := Scalar.indexCast v80
  ![18, v477.toNat, v478.toNat]
def k0_off54 (k0_t3 : Fin k0_t3_loop.trips) : Fin 3 → Nat :=
  let c19_i32 : BitVec 32 := 19#32
  let v497 : Index := Scalar.indexCast c19_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_204 : BitVec 32 := 0#32
  let v481 : BitVec 1 := Scalar.cmpi .sgt v51 c0_i32_204
  let v482 : BitVec 32 := Scalar.extui v481
  let c0_i32_205 : BitVec 32 := 0#32
  let v483 : BitVec 1 := Scalar.cmpi .slt v51 c0_i32_205
  let v484 : BitVec 32 := Scalar.extui v483
  let v485 : BitVec 32 := Scalar.subi v482 v484
  let c8_i32_203 : BitVec 32 := 8#32
  let c0_i32_206 : BitVec 32 := 0#32
  let v486 : BitVec 1 := Scalar.cmpi .sgt c8_i32_203 c0_i32_206
  let v487 : BitVec 32 := Scalar.extui v486
  let c0_i32_207 : BitVec 32 := 0#32
  let v488 : BitVec 1 := Scalar.cmpi .slt c8_i32_203 c0_i32_207
  let v489 : BitVec 32 := Scalar.extui v488
  let v490 : BitVec 32 := Scalar.subi v487 v489
  let v491 : BitVec 1 := Scalar.cmpi .ne v485 v490
  let v492 : BitVec 32 := Scalar.remsi v51 c8_i32_203
  let c0_i32_208 : BitVec 32 := 0#32
  let v493 : BitVec 1 := Scalar.cmpi .ne v492 c0_i32_208
  let v494 : BitVec 1 := Scalar.andi v491 v493
  let v480 : BitVec 32 := Scalar.divsi v51 c8_i32_203
  let c1_i32_209 : BitVec 32 := 1#32
  let v495 : BitVec 32 := Scalar.subi v480 c1_i32_209
  let v496 : BitVec 32 := Scalar.select v494 v495 v480
  let v498 : Index := Scalar.indexCast v496
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v499 : Index := Scalar.indexCast v80
  ![19, v498.toNat, v499.toNat]
def k0_off55 (k0_t3 : Fin k0_t3_loop.trips) : Fin 3 → Nat :=
  let c20_i32 : BitVec 32 := 20#32
  let v518 : Index := Scalar.indexCast c20_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_211 : BitVec 32 := 0#32
  let v502 : BitVec 1 := Scalar.cmpi .sgt v51 c0_i32_211
  let v503 : BitVec 32 := Scalar.extui v502
  let c0_i32_212 : BitVec 32 := 0#32
  let v504 : BitVec 1 := Scalar.cmpi .slt v51 c0_i32_212
  let v505 : BitVec 32 := Scalar.extui v504
  let v506 : BitVec 32 := Scalar.subi v503 v505
  let c8_i32_210 : BitVec 32 := 8#32
  let c0_i32_213 : BitVec 32 := 0#32
  let v507 : BitVec 1 := Scalar.cmpi .sgt c8_i32_210 c0_i32_213
  let v508 : BitVec 32 := Scalar.extui v507
  let c0_i32_214 : BitVec 32 := 0#32
  let v509 : BitVec 1 := Scalar.cmpi .slt c8_i32_210 c0_i32_214
  let v510 : BitVec 32 := Scalar.extui v509
  let v511 : BitVec 32 := Scalar.subi v508 v510
  let v512 : BitVec 1 := Scalar.cmpi .ne v506 v511
  let v513 : BitVec 32 := Scalar.remsi v51 c8_i32_210
  let c0_i32_215 : BitVec 32 := 0#32
  let v514 : BitVec 1 := Scalar.cmpi .ne v513 c0_i32_215
  let v515 : BitVec 1 := Scalar.andi v512 v514
  let v501 : BitVec 32 := Scalar.divsi v51 c8_i32_210
  let c1_i32_216 : BitVec 32 := 1#32
  let v516 : BitVec 32 := Scalar.subi v501 c1_i32_216
  let v517 : BitVec 32 := Scalar.select v515 v516 v501
  let v519 : Index := Scalar.indexCast v517
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v520 : Index := Scalar.indexCast v80
  ![20, v519.toNat, v520.toNat]
def k0_off56 (k0_t3 : Fin k0_t3_loop.trips) : Fin 3 → Nat :=
  let c21_i32 : BitVec 32 := 21#32
  let v539 : Index := Scalar.indexCast c21_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_218 : BitVec 32 := 0#32
  let v523 : BitVec 1 := Scalar.cmpi .sgt v51 c0_i32_218
  let v524 : BitVec 32 := Scalar.extui v523
  let c0_i32_219 : BitVec 32 := 0#32
  let v525 : BitVec 1 := Scalar.cmpi .slt v51 c0_i32_219
  let v526 : BitVec 32 := Scalar.extui v525
  let v527 : BitVec 32 := Scalar.subi v524 v526
  let c8_i32_217 : BitVec 32 := 8#32
  let c0_i32_220 : BitVec 32 := 0#32
  let v528 : BitVec 1 := Scalar.cmpi .sgt c8_i32_217 c0_i32_220
  let v529 : BitVec 32 := Scalar.extui v528
  let c0_i32_221 : BitVec 32 := 0#32
  let v530 : BitVec 1 := Scalar.cmpi .slt c8_i32_217 c0_i32_221
  let v531 : BitVec 32 := Scalar.extui v530
  let v532 : BitVec 32 := Scalar.subi v529 v531
  let v533 : BitVec 1 := Scalar.cmpi .ne v527 v532
  let v534 : BitVec 32 := Scalar.remsi v51 c8_i32_217
  let c0_i32_222 : BitVec 32 := 0#32
  let v535 : BitVec 1 := Scalar.cmpi .ne v534 c0_i32_222
  let v536 : BitVec 1 := Scalar.andi v533 v535
  let v522 : BitVec 32 := Scalar.divsi v51 c8_i32_217
  let c1_i32_223 : BitVec 32 := 1#32
  let v537 : BitVec 32 := Scalar.subi v522 c1_i32_223
  let v538 : BitVec 32 := Scalar.select v536 v537 v522
  let v540 : Index := Scalar.indexCast v538
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v541 : Index := Scalar.indexCast v80
  ![21, v540.toNat, v541.toNat]
def k0_off57 (k0_t3 : Fin k0_t3_loop.trips) : Fin 3 → Nat :=
  let c22_i32 : BitVec 32 := 22#32
  let v560 : Index := Scalar.indexCast c22_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_225 : BitVec 32 := 0#32
  let v544 : BitVec 1 := Scalar.cmpi .sgt v51 c0_i32_225
  let v545 : BitVec 32 := Scalar.extui v544
  let c0_i32_226 : BitVec 32 := 0#32
  let v546 : BitVec 1 := Scalar.cmpi .slt v51 c0_i32_226
  let v547 : BitVec 32 := Scalar.extui v546
  let v548 : BitVec 32 := Scalar.subi v545 v547
  let c8_i32_224 : BitVec 32 := 8#32
  let c0_i32_227 : BitVec 32 := 0#32
  let v549 : BitVec 1 := Scalar.cmpi .sgt c8_i32_224 c0_i32_227
  let v550 : BitVec 32 := Scalar.extui v549
  let c0_i32_228 : BitVec 32 := 0#32
  let v551 : BitVec 1 := Scalar.cmpi .slt c8_i32_224 c0_i32_228
  let v552 : BitVec 32 := Scalar.extui v551
  let v553 : BitVec 32 := Scalar.subi v550 v552
  let v554 : BitVec 1 := Scalar.cmpi .ne v548 v553
  let v555 : BitVec 32 := Scalar.remsi v51 c8_i32_224
  let c0_i32_229 : BitVec 32 := 0#32
  let v556 : BitVec 1 := Scalar.cmpi .ne v555 c0_i32_229
  let v557 : BitVec 1 := Scalar.andi v554 v556
  let v543 : BitVec 32 := Scalar.divsi v51 c8_i32_224
  let c1_i32_230 : BitVec 32 := 1#32
  let v558 : BitVec 32 := Scalar.subi v543 c1_i32_230
  let v559 : BitVec 32 := Scalar.select v557 v558 v543
  let v561 : Index := Scalar.indexCast v559
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v562 : Index := Scalar.indexCast v80
  ![22, v561.toNat, v562.toNat]
def k0_off58 (k0_t3 : Fin k0_t3_loop.trips) : Fin 3 → Nat :=
  let c23_i32 : BitVec 32 := 23#32
  let v581 : Index := Scalar.indexCast c23_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_232 : BitVec 32 := 0#32
  let v565 : BitVec 1 := Scalar.cmpi .sgt v51 c0_i32_232
  let v566 : BitVec 32 := Scalar.extui v565
  let c0_i32_233 : BitVec 32 := 0#32
  let v567 : BitVec 1 := Scalar.cmpi .slt v51 c0_i32_233
  let v568 : BitVec 32 := Scalar.extui v567
  let v569 : BitVec 32 := Scalar.subi v566 v568
  let c8_i32_231 : BitVec 32 := 8#32
  let c0_i32_234 : BitVec 32 := 0#32
  let v570 : BitVec 1 := Scalar.cmpi .sgt c8_i32_231 c0_i32_234
  let v571 : BitVec 32 := Scalar.extui v570
  let c0_i32_235 : BitVec 32 := 0#32
  let v572 : BitVec 1 := Scalar.cmpi .slt c8_i32_231 c0_i32_235
  let v573 : BitVec 32 := Scalar.extui v572
  let v574 : BitVec 32 := Scalar.subi v571 v573
  let v575 : BitVec 1 := Scalar.cmpi .ne v569 v574
  let v576 : BitVec 32 := Scalar.remsi v51 c8_i32_231
  let c0_i32_236 : BitVec 32 := 0#32
  let v577 : BitVec 1 := Scalar.cmpi .ne v576 c0_i32_236
  let v578 : BitVec 1 := Scalar.andi v575 v577
  let v564 : BitVec 32 := Scalar.divsi v51 c8_i32_231
  let c1_i32_237 : BitVec 32 := 1#32
  let v579 : BitVec 32 := Scalar.subi v564 c1_i32_237
  let v580 : BitVec 32 := Scalar.select v578 v579 v564
  let v582 : Index := Scalar.indexCast v580
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v583 : Index := Scalar.indexCast v80
  ![23, v582.toNat, v583.toNat]
def k0_off59 (k0_t3 : Fin k0_t3_loop.trips) : Fin 3 → Nat :=
  let c24_i32 : BitVec 32 := 24#32
  let v602 : Index := Scalar.indexCast c24_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_239 : BitVec 32 := 0#32
  let v586 : BitVec 1 := Scalar.cmpi .sgt v51 c0_i32_239
  let v587 : BitVec 32 := Scalar.extui v586
  let c0_i32_240 : BitVec 32 := 0#32
  let v588 : BitVec 1 := Scalar.cmpi .slt v51 c0_i32_240
  let v589 : BitVec 32 := Scalar.extui v588
  let v590 : BitVec 32 := Scalar.subi v587 v589
  let c8_i32_238 : BitVec 32 := 8#32
  let c0_i32_241 : BitVec 32 := 0#32
  let v591 : BitVec 1 := Scalar.cmpi .sgt c8_i32_238 c0_i32_241
  let v592 : BitVec 32 := Scalar.extui v591
  let c0_i32_242 : BitVec 32 := 0#32
  let v593 : BitVec 1 := Scalar.cmpi .slt c8_i32_238 c0_i32_242
  let v594 : BitVec 32 := Scalar.extui v593
  let v595 : BitVec 32 := Scalar.subi v592 v594
  let v596 : BitVec 1 := Scalar.cmpi .ne v590 v595
  let v597 : BitVec 32 := Scalar.remsi v51 c8_i32_238
  let c0_i32_243 : BitVec 32 := 0#32
  let v598 : BitVec 1 := Scalar.cmpi .ne v597 c0_i32_243
  let v599 : BitVec 1 := Scalar.andi v596 v598
  let v585 : BitVec 32 := Scalar.divsi v51 c8_i32_238
  let c1_i32_244 : BitVec 32 := 1#32
  let v600 : BitVec 32 := Scalar.subi v585 c1_i32_244
  let v601 : BitVec 32 := Scalar.select v599 v600 v585
  let v603 : Index := Scalar.indexCast v601
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v604 : Index := Scalar.indexCast v80
  ![24, v603.toNat, v604.toNat]
def k0_off60 (k0_t3 : Fin k0_t3_loop.trips) : Fin 3 → Nat :=
  let c25_i32 : BitVec 32 := 25#32
  let v623 : Index := Scalar.indexCast c25_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_246 : BitVec 32 := 0#32
  let v607 : BitVec 1 := Scalar.cmpi .sgt v51 c0_i32_246
  let v608 : BitVec 32 := Scalar.extui v607
  let c0_i32_247 : BitVec 32 := 0#32
  let v609 : BitVec 1 := Scalar.cmpi .slt v51 c0_i32_247
  let v610 : BitVec 32 := Scalar.extui v609
  let v611 : BitVec 32 := Scalar.subi v608 v610
  let c8_i32_245 : BitVec 32 := 8#32
  let c0_i32_248 : BitVec 32 := 0#32
  let v612 : BitVec 1 := Scalar.cmpi .sgt c8_i32_245 c0_i32_248
  let v613 : BitVec 32 := Scalar.extui v612
  let c0_i32_249 : BitVec 32 := 0#32
  let v614 : BitVec 1 := Scalar.cmpi .slt c8_i32_245 c0_i32_249
  let v615 : BitVec 32 := Scalar.extui v614
  let v616 : BitVec 32 := Scalar.subi v613 v615
  let v617 : BitVec 1 := Scalar.cmpi .ne v611 v616
  let v618 : BitVec 32 := Scalar.remsi v51 c8_i32_245
  let c0_i32_250 : BitVec 32 := 0#32
  let v619 : BitVec 1 := Scalar.cmpi .ne v618 c0_i32_250
  let v620 : BitVec 1 := Scalar.andi v617 v619
  let v606 : BitVec 32 := Scalar.divsi v51 c8_i32_245
  let c1_i32_251 : BitVec 32 := 1#32
  let v621 : BitVec 32 := Scalar.subi v606 c1_i32_251
  let v622 : BitVec 32 := Scalar.select v620 v621 v606
  let v624 : Index := Scalar.indexCast v622
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v625 : Index := Scalar.indexCast v80
  ![25, v624.toNat, v625.toNat]
def k0_off61 (k0_t3 : Fin k0_t3_loop.trips) : Fin 3 → Nat :=
  let c26_i32 : BitVec 32 := 26#32
  let v644 : Index := Scalar.indexCast c26_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_253 : BitVec 32 := 0#32
  let v628 : BitVec 1 := Scalar.cmpi .sgt v51 c0_i32_253
  let v629 : BitVec 32 := Scalar.extui v628
  let c0_i32_254 : BitVec 32 := 0#32
  let v630 : BitVec 1 := Scalar.cmpi .slt v51 c0_i32_254
  let v631 : BitVec 32 := Scalar.extui v630
  let v632 : BitVec 32 := Scalar.subi v629 v631
  let c8_i32_252 : BitVec 32 := 8#32
  let c0_i32_255 : BitVec 32 := 0#32
  let v633 : BitVec 1 := Scalar.cmpi .sgt c8_i32_252 c0_i32_255
  let v634 : BitVec 32 := Scalar.extui v633
  let c0_i32_256 : BitVec 32 := 0#32
  let v635 : BitVec 1 := Scalar.cmpi .slt c8_i32_252 c0_i32_256
  let v636 : BitVec 32 := Scalar.extui v635
  let v637 : BitVec 32 := Scalar.subi v634 v636
  let v638 : BitVec 1 := Scalar.cmpi .ne v632 v637
  let v639 : BitVec 32 := Scalar.remsi v51 c8_i32_252
  let c0_i32_257 : BitVec 32 := 0#32
  let v640 : BitVec 1 := Scalar.cmpi .ne v639 c0_i32_257
  let v641 : BitVec 1 := Scalar.andi v638 v640
  let v627 : BitVec 32 := Scalar.divsi v51 c8_i32_252
  let c1_i32_258 : BitVec 32 := 1#32
  let v642 : BitVec 32 := Scalar.subi v627 c1_i32_258
  let v643 : BitVec 32 := Scalar.select v641 v642 v627
  let v645 : Index := Scalar.indexCast v643
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v646 : Index := Scalar.indexCast v80
  ![26, v645.toNat, v646.toNat]
def k0_off62 (k0_t3 : Fin k0_t3_loop.trips) : Fin 3 → Nat :=
  let c27_i32 : BitVec 32 := 27#32
  let v665 : Index := Scalar.indexCast c27_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_260 : BitVec 32 := 0#32
  let v649 : BitVec 1 := Scalar.cmpi .sgt v51 c0_i32_260
  let v650 : BitVec 32 := Scalar.extui v649
  let c0_i32_261 : BitVec 32 := 0#32
  let v651 : BitVec 1 := Scalar.cmpi .slt v51 c0_i32_261
  let v652 : BitVec 32 := Scalar.extui v651
  let v653 : BitVec 32 := Scalar.subi v650 v652
  let c8_i32_259 : BitVec 32 := 8#32
  let c0_i32_262 : BitVec 32 := 0#32
  let v654 : BitVec 1 := Scalar.cmpi .sgt c8_i32_259 c0_i32_262
  let v655 : BitVec 32 := Scalar.extui v654
  let c0_i32_263 : BitVec 32 := 0#32
  let v656 : BitVec 1 := Scalar.cmpi .slt c8_i32_259 c0_i32_263
  let v657 : BitVec 32 := Scalar.extui v656
  let v658 : BitVec 32 := Scalar.subi v655 v657
  let v659 : BitVec 1 := Scalar.cmpi .ne v653 v658
  let v660 : BitVec 32 := Scalar.remsi v51 c8_i32_259
  let c0_i32_264 : BitVec 32 := 0#32
  let v661 : BitVec 1 := Scalar.cmpi .ne v660 c0_i32_264
  let v662 : BitVec 1 := Scalar.andi v659 v661
  let v648 : BitVec 32 := Scalar.divsi v51 c8_i32_259
  let c1_i32_265 : BitVec 32 := 1#32
  let v663 : BitVec 32 := Scalar.subi v648 c1_i32_265
  let v664 : BitVec 32 := Scalar.select v662 v663 v648
  let v666 : Index := Scalar.indexCast v664
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v667 : Index := Scalar.indexCast v80
  ![27, v666.toNat, v667.toNat]
def k0_off63 (k0_t3 : Fin k0_t3_loop.trips) : Fin 3 → Nat :=
  let c28_i32 : BitVec 32 := 28#32
  let v686 : Index := Scalar.indexCast c28_i32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_267 : BitVec 32 := 0#32
  let v670 : BitVec 1 := Scalar.cmpi .sgt v51 c0_i32_267
  let v671 : BitVec 32 := Scalar.extui v670
  let c0_i32_268 : BitVec 32 := 0#32
  let v672 : BitVec 1 := Scalar.cmpi .slt v51 c0_i32_268
  let v673 : BitVec 32 := Scalar.extui v672
  let v674 : BitVec 32 := Scalar.subi v671 v673
  let c8_i32_266 : BitVec 32 := 8#32
  let c0_i32_269 : BitVec 32 := 0#32
  let v675 : BitVec 1 := Scalar.cmpi .sgt c8_i32_266 c0_i32_269
  let v676 : BitVec 32 := Scalar.extui v675
  let c0_i32_270 : BitVec 32 := 0#32
  let v677 : BitVec 1 := Scalar.cmpi .slt c8_i32_266 c0_i32_270
  let v678 : BitVec 32 := Scalar.extui v677
  let v679 : BitVec 32 := Scalar.subi v676 v678
  let v680 : BitVec 1 := Scalar.cmpi .ne v674 v679
  let v681 : BitVec 32 := Scalar.remsi v51 c8_i32_266
  let c0_i32_271 : BitVec 32 := 0#32
  let v682 : BitVec 1 := Scalar.cmpi .ne v681 c0_i32_271
  let v683 : BitVec 1 := Scalar.andi v680 v682
  let v669 : BitVec 32 := Scalar.divsi v51 c8_i32_266
  let c1_i32_272 : BitVec 32 := 1#32
  let v684 : BitVec 32 := Scalar.subi v669 c1_i32_272
  let v685 : BitVec 32 := Scalar.select v683 v684 v669
  let v687 : Index := Scalar.indexCast v685
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v688 : Index := Scalar.indexCast v80
  ![28, v687.toNat, v688.toNat]
def k0_off64 (k0_t3 : Fin k0_t3_loop.trips) : Fin 2 → Nat :=
  let c8_i32_58 : BitVec 32 := 8#32
  let c0_i32_50 : BitVec 32 := 0#32
  let c0_i32_41 : BitVec 32 := 0#32
  let c1_i32_43 : BitVec 32 := 1#32
  let arg13 : BitVec 32 := Scf.iv c0_i32_41 c1_i32_43 k0_t3
  let c1_i32_49 : BitVec 32 := 1#32
  let v50 : BitVec 32 := Scalar.muli arg13 c1_i32_49
  let v51 : BitVec 32 := Scalar.addi c0_i32_50 v50
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c8_i32_51 : BitVec 32 := 8#32
  let c0_i32_54 : BitVec 32 := 0#32
  let v58 : BitVec 1 := Scalar.cmpi .sgt c8_i32_51 c0_i32_54
  let v59 : BitVec 32 := Scalar.extui v58
  let c0_i32_55 : BitVec 32 := 0#32
  let v60 : BitVec 1 := Scalar.cmpi .slt c8_i32_51 c0_i32_55
  let v61 : BitVec 32 := Scalar.extui v60
  let v62 : BitVec 32 := Scalar.subi v59 v61
  let v63 : BitVec 1 := Scalar.cmpi .ne v57 v62
  let v64 : BitVec 32 := Scalar.remsi v51 c8_i32_51
  let c0_i32_56 : BitVec 32 := 0#32
  let v65 : BitVec 1 := Scalar.cmpi .ne v64 c0_i32_56
  let v66 : BitVec 1 := Scalar.andi v63 v65
  let v52 : BitVec 32 := Scalar.divsi v51 c8_i32_51
  let c1_i32_57 : BitVec 32 := 1#32
  let v67 : BitVec 32 := Scalar.subi v52 c1_i32_57
  let v68 : BitVec 32 := Scalar.select v66 v67 v52
  let v69 : BitVec 32 := Scalar.addi c8_i32_58 v68
  let v803 : Index := Scalar.indexCast v69
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v804 : Index := Scalar.indexCast v80
  ![v803.toNat, v804.toNat]
@[reducible] def k0_t4_loop : Scf.Loop 32 :=
  let c0_i32_45 : BitVec 32 := 0#32
  let c64_i32_46 : BitVec 32 := 64#32
  let v49 : BitVec 32 := Scalar.addi c0_i32_45 c64_i32_46
  let c1_i32_47 : BitVec 32 := 1#32
  ⟨c0_i32_45, v49, c1_i32_47⟩
def k0_off65 (k0_t4 : Fin k0_t4_loop.trips) : Fin 2 → Nat :=
  let c8_i32_58 : BitVec 32 := 8#32
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v50 : BitVec 32 := Scalar.muli arg13 c1_i32_49
  let v51 : BitVec 32 := Scalar.addi c0_i32_50 v50
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c8_i32_51 : BitVec 32 := 8#32
  let c0_i32_54 : BitVec 32 := 0#32
  let v58 : BitVec 1 := Scalar.cmpi .sgt c8_i32_51 c0_i32_54
  let v59 : BitVec 32 := Scalar.extui v58
  let c0_i32_55 : BitVec 32 := 0#32
  let v60 : BitVec 1 := Scalar.cmpi .slt c8_i32_51 c0_i32_55
  let v61 : BitVec 32 := Scalar.extui v60
  let v62 : BitVec 32 := Scalar.subi v59 v61
  let v63 : BitVec 1 := Scalar.cmpi .ne v57 v62
  let v64 : BitVec 32 := Scalar.remsi v51 c8_i32_51
  let c0_i32_56 : BitVec 32 := 0#32
  let v65 : BitVec 1 := Scalar.cmpi .ne v64 c0_i32_56
  let v66 : BitVec 1 := Scalar.andi v63 v65
  let v52 : BitVec 32 := Scalar.divsi v51 c8_i32_51
  let c1_i32_57 : BitVec 32 := 1#32
  let v67 : BitVec 32 := Scalar.subi v52 c1_i32_57
  let v68 : BitVec 32 := Scalar.select v66 v67 v52
  let v69 : BitVec 32 := Scalar.addi c8_i32_58 v68
  let v81 : Index := Scalar.indexCast v69
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v82 : Index := Scalar.indexCast v80
  ![v81.toNat, v82.toNat]

def k0_chk2 (v93 : IVec S16 32) (v95 : IVec S16 32) : Prop :=
  (∀ a x, ((![v93, v95] : Fin 2 → IVec S16 32) a x).toNat < S16x128.size a)
theorem k0_idx2_inb : ∀ (v93 : IVec S16 32) (v95 : IVec S16 32) (k0_hw2 : k0_chk2 v93 v95), ∀ a x, ((![v93, v95] : Fin 2 → IVec S16 32) a x).toNat < S16x128.size a := fun v93 v95 k0_hw2 => k0_hw2
def k0_off66 (k0_t4 : Fin k0_t4_loop.trips) : Fin 2 → Nat :=
  let c8_i32_58 : BitVec 32 := 8#32
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v50 : BitVec 32 := Scalar.muli arg13 c1_i32_49
  let v51 : BitVec 32 := Scalar.addi c0_i32_50 v50
  let c0_i32_52 : BitVec 32 := 0#32
  let v53 : BitVec 1 := Scalar.cmpi .sgt v51 c0_i32_52
  let v54 : BitVec 32 := Scalar.extui v53
  let c0_i32_53 : BitVec 32 := 0#32
  let v55 : BitVec 1 := Scalar.cmpi .slt v51 c0_i32_53
  let v56 : BitVec 32 := Scalar.extui v55
  let v57 : BitVec 32 := Scalar.subi v54 v56
  let c8_i32_51 : BitVec 32 := 8#32
  let c0_i32_54 : BitVec 32 := 0#32
  let v58 : BitVec 1 := Scalar.cmpi .sgt c8_i32_51 c0_i32_54
  let v59 : BitVec 32 := Scalar.extui v58
  let c0_i32_55 : BitVec 32 := 0#32
  let v60 : BitVec 1 := Scalar.cmpi .slt c8_i32_51 c0_i32_55
  let v61 : BitVec 32 := Scalar.extui v60
  let v62 : BitVec 32 := Scalar.subi v59 v61
  let v63 : BitVec 1 := Scalar.cmpi .ne v57 v62
  let v64 : BitVec 32 := Scalar.remsi v51 c8_i32_51
  let c0_i32_56 : BitVec 32 := 0#32
  let v65 : BitVec 1 := Scalar.cmpi .ne v64 c0_i32_56
  let v66 : BitVec 1 := Scalar.andi v63 v65
  let v52 : BitVec 32 := Scalar.divsi v51 c8_i32_51
  let c1_i32_57 : BitVec 32 := 1#32
  let v67 : BitVec 32 := Scalar.subi v52 c1_i32_57
  let v68 : BitVec 32 := Scalar.select v66 v67 v52
  let v69 : BitVec 32 := Scalar.addi c8_i32_58 v68
  let v105 : Index := Scalar.indexCast v69
  let c8_i32_59 : BitVec 32 := 8#32
  let c0_i32_60 : BitVec 32 := 0#32
  let v70 : BitVec 1 := Scalar.cmpi .eq c8_i32_59 c0_i32_60
  let c1_i32_61 : BitVec 32 := 1#32
  let v71 : BitVec 32 := Scalar.select v70 c1_i32_61 c8_i32_59
  let v72 : BitVec 32 := Scalar.remsi v51 v71
  let c0_i32_63 : BitVec 32 := 0#32
  let v74 : BitVec 1 := Scalar.cmpi .slt v72 c0_i32_63
  let c0_i32_64 : BitVec 32 := 0#32
  let v75 : BitVec 1 := Scalar.cmpi .slt v71 c0_i32_64
  let v76 : BitVec 1 := Scalar.xori v74 v75
  let c0_i32_62 : BitVec 32 := 0#32
  let v73 : BitVec 1 := Scalar.cmpi .ne v72 c0_i32_62
  let v77 : BitVec 1 := Scalar.andi v76 v73
  let v78 : BitVec 32 := Scalar.addi v72 v71
  let v79 : BitVec 32 := Scalar.select v77 v78 v72
  let c16_i32 : BitVec 32 := 16#32
  let v80 : BitVec 32 := Scalar.muli v79 c16_i32
  let v106 : Index := Scalar.indexCast v80
  ![v105.toNat, v106.toNat]
def k0_off67 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c0_i32_49_r0 : BitVec 32 := 0#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_50_r0 : BitVec 32 := 0#32
  ![v19.toNat, 0, v29.toNat, 0]
abbrev grid1 : Pipeline.Grid := ⟨1, ![12], ![false]⟩

def cc1_transform_0 (i : grid1.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage1_0 : Fin 2 → Memref sig .tc .vmem S29x8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x2048x29 : Shape := ⟨3, ![128, 2048, 29]⟩
abbrev S_ : Shape := ⟨0, ![]⟩
abbrev S128x2048 : Shape := ⟨2, ![128, 2048]⟩
abbrev S128x1 : Shape := ⟨2, ![128, 1]⟩
abbrev S128x2047 : Shape := ⟨2, ![128, 2047]⟩

abbrev nBuf : Space → Nat
  | .hbm => 18
  | .vmem => 0
  | .smem => 0
  | _ => 0

abbrev bufTy : (tb : Table) → Fin (tcTables nBuf tb) → BufTy
  | .hbm, ⟨0, _⟩ => ⟨S128x2048x29, .f32⟩
  | .hbm, ⟨1, _⟩ => ⟨S128x2048x29, .f32⟩
  | .hbm, ⟨2, _⟩ => ⟨S128x2048x29, .i32⟩
  | .hbm, ⟨3, _⟩ => ⟨S_, .f32⟩
  | .hbm, ⟨4, _⟩ => ⟨S_, .i32⟩
  | .hbm, ⟨5, _⟩ => ⟨S128x2048, .f32⟩
  | .hbm, ⟨6, _⟩ => ⟨S128x2048, .i32⟩
  | .hbm, ⟨7, _⟩ => ⟨S_, .i32⟩
  | .hbm, ⟨8, _⟩ => ⟨S128x1, .i32⟩
  | .hbm, ⟨9, _⟩ => ⟨S128x2047, .i32⟩
  | .hbm, ⟨10, _⟩ => ⟨S128x2048, .i32⟩
  | .hbm, ⟨11, _⟩ => ⟨S_, .i32⟩
  | .hbm, ⟨12, _⟩ => ⟨S128x2048, .i32⟩
  | .hbm, ⟨13, _⟩ => ⟨S128x2048, .i1⟩
  | .hbm, ⟨14, _⟩ => ⟨S128x2048, .i1⟩
  | .hbm, ⟨15, _⟩ => ⟨S128x2048, .i1⟩
  | .hbm, ⟨16, _⟩ => ⟨S_, .f32⟩
  | .hbm, ⟨17, _⟩ => ⟨S128x2048, .f32⟩
  | _, _ => ⟨S128x2048x29, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Tree.lean ====
/-
  The kernel's maximum-with-position tree over the 29 classes, at one timestep, and what it computes over an order.
-/
module

public import proofs.«01_k».proof.Defs
public import Idealize.ShloMosaic.Lib.ValueIdxCore

@[expose] public section

noncomputable section

namespace Cert.Proof

open Idealize.ShloMosaic

variable {F : FTy → Type} [FloatOps F]

/-- A value together with the word of the class it came from. -/
abbrev Tagged (F : FTy → Type) : Type := F .f32 × BitVec 32

/-- One node of the tree: the right operand where it is strictly above the left one, else the left one. -/
def node (p q : Tagged F) : Tagged F :=
  (Scalar.select (FloatOps.cmpf .ogt q.1 p.1) q.1 p.1, Scalar.select (FloatOps.cmpf .ogt q.1 p.1) q.2 p.2)

/-- The complete tree over the `2 ^ n` classes from `i` on. -/
def span (x : ℕ → F .f32) : ℕ → ℕ → Tagged F
  | 0, i => (x i, BitVec.ofNat 32 i)
  | n + 1, i => node (span x n i) (span x n (i + 2 ^ n))

/-- The tree over classes 0 … 28 as the kernel shapes it. -/
def tree (x : ℕ → F .f32) : Tagged F :=
  node (span x 4 0) (node (span x 3 16) (node (span x 2 24) (span x 0 28)))

/-- The trees of two rows of classes that agree on 0 … 28 are the same. -/
theorem span_congr {x y : ℕ → F .f32} : ∀ (n i : ℕ), (∀ v, i ≤ v → v < i + 2 ^ n → x v = y v) → span x n i = span y n i
  | 0, i, h => by simp only [span]; rw [h i (Nat.le_refl _) (by simp)]
  | n + 1, i, h => by
    have e : 2 ^ (n + 1) = 2 ^ n + 2 ^ n := by ring
    simp only [span]
    rw [span_congr n i fun v h1 h2 => h v h1 (by omega), span_congr n (i + 2 ^ n) fun v h1 h2 => h v (by omega) (by omega)]

theorem tree_congr {x y : ℕ → F .f32} (h : ∀ v, v < 29 → x v = y v) : tree x = tree y := by
  unfold tree
  rw [span_congr 4 0 fun v _ h2 => h v (by omega), span_congr 3 16 fun v _ h2 => h v (by omega),
    span_congr 2 24 fun v _ h2 => h v (by omega), span_congr 0 28 fun v _ h2 => h v (by omega)]

end Cert.Proof

end
-- ==== Proof.Base.lean ====
/-
  The program as the launch theorem sees it: its tables, its ghost state, its buffers.
-/
module

public import proofs.«01_k».proof.Proof.Tree
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Pipeline.RegionsLoop
public import Idealize.ShloMosaic.Lib.Tactic
public import Idealize.ShloMosaic.Lib.ValueIdx
public import Idealize.ShloMosaic.Lib.WritesUnit
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
/-- The SparseCore call's configuration, and the body table under it. -/
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are four distinct unscoped ones, and no buffer is shared between tasks. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The ghost state: the handshakes' rounds, the pipeline's rounds, the transfers' counters -/

abbrev UH : Type := URounds (GSem nD τ sig) ℕ
abbrev UP : Type := Idealize.ShloMosaic.UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## A task's place -/

/-- The SparseCore and the subcore that the task at grid point `L` runs on. -/
abbrev cV (L : grid0.Coords) : Fin τ.nSC := (L 0).castLE hcore0
abbrev jV (L : grid0.Coords) : Fin τ.nSub := (L 1).castLE hsub0

end Cert.Proof

end
-- ==== Proof.TcBody.lean ====
/-
  The TensorCore kernel at one block: eight rows of scores in, the rows' three results out.
-/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

open Idealize.ShloMosaic.TcCoe

variable {F : FTy → Type} [FloatOps F]
local notation "𝕄" => MT nD τ sig (HIx 1) (Elt F) ℕ UU ℕ

/-- The scores of the classes at a row and a timestep of a block. -/
def clsAt (X : S29x8x2048.Idx → F .f32) (r : Fin 8) (t : Fin 2048) : ℕ → F .f32 := fun v => X (ix3 (Fin.ofNat 29 v) r t)

/-- The three results of a block: the class, its probability, and the flag from the class and the one before. -/
def blkIdx (X : S29x8x2048.Idx → F .f32) : S8x2048.Idx → BitVec 32 := fun y => (tree (clsAt X (y 0) (y 1))).2
def blkMp (X : S29x8x2048.Idx → F .f32) : S8x2048.Idx → F .f32 := fun y => FloatOps.exp (tree (clsAt X (y 0) (y 1))).1
/-- The class at the timestep before, the word of minus one at the first. -/
def blkPrev (X : S29x8x2048.Idx → F .f32) : S8x2048.Idx → BitVec 32 := fun y =>
  if (y 1).val = 0 then 4294967295#32 else blkIdx X (ix2 (y 0) (Fin.ofNat 2048 ((y 1).val - 1)))
def blkVal (X : S29x8x2048.Idx → F .f32) : S8x2048.Idx → BitVec 32 := fun y =>
  Scalar.extui (Scalar.andi (Scalar.cmpi .ne (blkIdx X y) 0#32) (Scalar.cmpi .ne (blkIdx X y) (blkPrev X y)))

/-- A memref's buffer on the TensorCore held whole. -/
abbrev pt (d : Dev nD) {sp : Space} {S : Shape} {e : EltTy} (M : Memref sig .tc sp S e) (f : Buf (Elt F) (M.view.loc (d : Thread nD τ))) : sProp 𝕄 :=
  M.view.loc (d : Thread nD τ) ↦{fullShare} f

/-- The scores of class `v` as the kernel loads them. -/
def ldTc (M : Memref sig .tc .vmem S29x8x2048 .f32) (f : M.view.ty.Contents (Elt F)) (off : Fin 3 → ℕ)
    (inb : ∀ a, off a + S1x8x2048.size a ≤ S29x8x2048.size a) : S8x2048.Idx → F .f32 :=
  shapeCast S8x2048 (M.view.readAt (Elt F) (Rect.unit (s := S29x8x2048) off S1x8x2048.size inb).toLoadRect f) shapeCasts_S1x8x2048_S8x2048

theorem ldTc_inb (v : Fin 29) : ∀ a, (![v.val, 0, 0] : Fin 3 → ℕ) a + S1x8x2048.size a ≤ S29x8x2048.size a := by
  revert v; decide +kernel

omit [FloatOps F] in
theorem ldTc_apply (M : Memref sig .tc .vmem S29x8x2048 .f32) (f : M.view.ty.Contents (Elt F)) (v : Fin 29) (y : S8x2048.Idx) :
    ldTc M f ![v.val, 0, 0] (ldTc_inb v) y = M.view.read (Elt F) f (ix3 v (y 0) (y 1)) := by
  unfold ldTc
  rw [shapeCast_apply _ _ y (ix3 (0 : Fin 1) (y 0) (y 1) : S1x8x2048.Idx) (by
    rw [Shape.rowMajor_val_three, Shape.rowMajor_val_two]
    show (0 * 8 + (y 0).val) * 2048 + (y 1).val = (y 0).val * 2048 + (y 1).val
    omega)]
  refine congrArg (M.view.read (Elt F) f) (funext fun a => Fin.ext ?_)
  match a with
  | ⟨0, _⟩ => show v.val + 1 * 0 = v.val; omega
  | ⟨1, _⟩ => show 0 + 1 * (y 0).val = (y 0).val; omega
  | ⟨2, _⟩ => show 0 + 1 * (y 1).val = (y 1).val; omega

/-- The scores of all classes as the kernel loads them. -/
def ldsTc (M : Memref sig .tc .vmem S29x8x2048 .f32) (f : M.view.ty.Contents (Elt F)) (y : S8x2048.Idx) : ℕ → F .f32 :=
  fun v => ldTc M f ![(Fin.ofNat 29 v).val, 0, 0] (ldTc_inb _) y

omit [FloatOps F] in
theorem ldsTc_eq (M : Memref sig .tc .vmem S29x8x2048 .f32) (f : M.view.ty.Contents (Elt F)) (y : S8x2048.Idx) :
    ldsTc M f y = clsAt (M.view.read (Elt F) f) (y 0) (y 1) := funext fun v => ldTc_apply M f _ y

omit [FloatOps F] in
/-- A store of the whole block leaves what it stored. -/
theorem read_stored {e : EltTy} (M : Memref sig .tc .vmem S8x2048 e) (f : M.view.ty.Contents (Elt F)) (w : S8x2048.Idx → Elt F e) :
    M.view.read (Elt F) (M.view.writes (Elt F) f [⟨Rect.unit (s := S8x2048) ![0, 0] S8x2048.size inb_S8x2048_S8x2048_0_0, w⟩]) = w := by
  funext y
  have h := congrFun ((M.view.slice (Rect.unit (s := S8x2048) ![0, 0] S8x2048.size inb_S8x2048_S8x2048_0_0)).read_write_univ (Val := Elt F) f w) y
  rw [View.writes_singleton]
  refine Eq.trans ?_ h
  show M.view.read (Elt F) _ y = M.view.read (Elt F) _ ((Rect.unit (s := S8x2048) ![0, 0] S8x2048.size inb_S8x2048_S8x2048_0_0).emb y)
  refine congrArg _ (funext fun a => Fin.ext ?_)
  match a with
  | ⟨0, _⟩ => show (y 0).val = 0 + 1 * (y 0).val; omega
  | ⟨1, _⟩ => show (y 1).val = 0 + 1 * (y 1).val; omega

/-- The classes shifted by one timestep, minus one put in front. -/
theorem shifted (x : IVec S8x2048 32) (y : S8x2048.Idx) :
    concatenate S8x2048 1 [⟨S8x1, broadcast S8x1 4294967295#32⟩, ⟨S8x2047, extractStridedSlice S8x2047 ![0, 0] x slices_S8x2048_o0_0_S8x2047⟩]
        concatenates_S8x1_S8x2047_S8x2048_d1 y
      = if (y 1).val = 0 then 4294967295#32 else x (ix2 (y 0) (Fin.ofNat 2048 ((y 1).val - 1))) := by
  have h1 : (y 1).val < 2048 := (y 1).isLt
  by_cases h : (y 1).val = 0
  · rw [if_pos h, concatenate_pair_apply_left (t := S8x2048) (s₁ := S8x1) (s₂ := S8x2047) 1 _ _ _ y rfl (ix2 (y 0) (0 : Fin 1)) (fun b => by
      match b with
      | ⟨0, _⟩ => rfl
      | ⟨1, _⟩ => exact h.symm)]
    rfl
  · rw [if_neg h, concatenate_pair_apply_right (t := S8x2048) (s₁ := S8x1) (s₂ := S8x2047) 1 _ _ _ y rfl rfl (ix2 (y 0) (⟨(y 1).val - 1, by omega⟩ : Fin 2047)) (fun b hb => by
      match b with
      | ⟨0, _⟩ => rfl
      | ⟨1, _⟩ => exact absurd rfl hb) (show (y 1).val - 1 + 1 = (y 1).val by omega)]
    refine congrArg x (funext fun a => Fin.ext ?_)
    match a with
    | ⟨0, _⟩ => show 0 + (y 0).val = (y 0).val; omega
    | ⟨1, _⟩ => show 0 + ((y 1).val - 1) = ((y 1).val - 1) % 2048; omega

/-- What the kernel makes of thirteen compared pairs, the two classes of the fourteenth and the last class: the class word. -/
theorem comb_idx (p0 p1 p2 p3 p4 p5 p6 p7 p8 p9 p10 p11 p12 : S8x2048.Idx → Tagged F) (a b z : FVec F S8x2048 .f32) :
    k1_pay101 z (fun y => (p0 y).1) (fun y => (p0 y).2) (fun y => (p1 y).1) (fun y => (p1 y).2) (fun y => (p2 y).1) (fun y => (p2 y).2) (fun y => (p3 y).1) (fun y => (p3 y).2) (fun y => (p4 y).1) (fun y => (p4 y).2) (fun y => (p5 y).1) (fun y => (p5 y).2) (fun y => (p6 y).1) (fun y => (p6 y).2) (fun y => (p7 y).1) (fun y => (p7 y).2) (fun y => (p8 y).1) (fun y => (p8 y).2) (fun y => (p9 y).1) (fun y => (p9 y).2) (fun y => (p10 y).1) (fun y => (p10 y).2) (fun y => (p11 y).1) (fun y => (p11 y).2) (fun y => (p12 y).1) (fun y => (p12 y).2) (k1_pay72 a b) (k1_pay73 a b) 27#32
      = fun y => (node (node (node (node (p0 y) (p1 y)) (node (p2 y) (p3 y))) (node (node (p4 y) (p5 y)) (node (p6 y) (p7 y)))) (node (node (node (p8 y) (p9 y)) (node (p10 y) (p11 y))) (node (node (p12 y) (node (a y, 26#32) (b y, 27#32))) (z y, 28#32)))).2 := rfl

/-- And its probability. -/
theorem comb_mp (p0 p1 p2 p3 p4 p5 p6 p7 p8 p9 p10 p11 p12 : S8x2048.Idx → Tagged F) (a b z : FVec F S8x2048 .f32) :
    k1_pay102 z (fun y => (p0 y).1) (fun y => (p1 y).1) (fun y => (p2 y).1) (fun y => (p3 y).1) (fun y => (p4 y).1) (fun y => (p5 y).1) (fun y => (p6 y).1) (fun y => (p7 y).1) (fun y => (p8 y).1) (fun y => (p9 y).1) (fun y => (p10 y).1) (fun y => (p11 y).1) (fun y => (p12 y).1) (k1_pay73 a b)
      = fun y => FloatOps.exp (node (node (node (node (p0 y) (p1 y)) (node (p2 y) (p3 y))) (node (node (p4 y) (p5 y)) (node (p6 y) (p7 y)))) (node (node (node (p8 y) (p9 y)) (node (p10 y) (p11 y))) (node (node (p12 y) (node (a y, 26#32) (b y, 27#32))) (z y, 28#32)))).1 := rfl

set_option maxHeartbeats 1000000 in
/-- The kernel run at a block: the three results are in the three output blocks, the scores as they were. -/
theorem tc_run (d : Dev nD) (i : grid1.Coords) (M1 : Memref sig .tc .vmem S29x8x2048 .f32) (h1 : M1.IsWhole) (M2 : Memref sig .tc .vmem S8x2048 .i32) (h2 : M2.IsWhole)
    (M3 : Memref sig .tc .vmem S8x2048 .i32) (h3 : M3.IsWhole) (M4 : Memref sig .tc .vmem S8x2048 .f32) (h4 : M4.IsWhole)
    (f1 : Buf (Elt F) (M1.view.loc (d : Thread nD τ))) (f2 : Buf (Elt F) (M2.view.loc (d : Thread nD τ))) (f3 : Buf (Elt F) (M3.view.loc (d : Thread nD τ)))
    (f4 : Buf (Elt F) (M4.view.loc (d : Thread nD τ))) :
    iprop(pt d M1 f1 ∗ pt d M2 f2 ∗ pt d M3 f3 ∗ pt d M4 f4)
      ⊢ wp frame (wpE (defs₀ (F := F)) 𝒱₀ (d : Thread nD τ) none) Set.univ (cc1__tc_body i M1 h1 M2 h2 M3 h3 M4 h4)
          fun _ => iprop(pt d M1 f1 ∗ (∃ w, ⌜M2.view.read (Elt F) w = blkIdx (M1.view.read (Elt F) f1)⌝ ∗ pt d M2 w)
            ∗ (∃ w, ⌜M3.view.read (Elt F) w = blkVal (M1.view.read (Elt F) f1)⌝ ∗ pt d M3 w)
            ∗ (∃ w, ⌜M4.view.read (Elt F) w = blkMp (M1.view.read (Elt F) f1)⌝ ∗ pt d M4 w)) := by
  iintro ⟨H1, H2, H3, H4⟩
  sl_exec!
  have hI : tc_run.sl.r_37 d M1 f1 = fun y => (tree (ldsTc M1 f1 y)).2 :=
    comb_idx (fun y => span (ldsTc M1 f1 y) 1 0) (fun y => span (ldsTc M1 f1 y) 1 2) (fun y => span (ldsTc M1 f1 y) 1 4) (fun y => span (ldsTc M1 f1 y) 1 6) (fun y => span (ldsTc M1 f1 y) 1 8) (fun y => span (ldsTc M1 f1 y) 1 10) (fun y => span (ldsTc M1 f1 y) 1 12) (fun y => span (ldsTc M1 f1 y) 1 14) (fun y => span (ldsTc M1 f1 y) 1 16) (fun y => span (ldsTc M1 f1 y) 1 18) (fun y => span (ldsTc M1 f1 y) 1 20) (fun y => span (ldsTc M1 f1 y) 1 22) (fun y => span (ldsTc M1 f1 y) 1 24) (fun y => ldsTc M1 f1 y 26) (fun y => ldsTc M1 f1 y 27) (fun y => ldsTc M1 f1 y 28)
  have hS : tc_run.sl.r_38 d M1 f1 = extractStridedSlice S8x2047 ![0, 0] (tc_run.sl.r_37 d M1 f1) slices_S8x2048_o0_0_S8x2047 := rfl
  rw [show tc_run.sl.H2_1 d M1 f1 = [⟨Rect.unit (s := S8x2048) ![0, 0] S8x2048.size inb_S8x2048_S8x2048_0_0, tc_run.sl.r_37 d M1 f1⟩] from rfl,
    show tc_run.sl.H3_1 d M1 f1 = [⟨Rect.unit (s := S8x2048) ![0, 0] S8x2048.size inb_S8x2048_S8x2048_0_0, k1_pay1 (tc_run.sl.r_37 d M1 f1) k1_pay103 (tc_run.sl.r_38 d M1 f1)⟩] from rfl,
    hS, hI]
  have hM : k1_pay102 (tc_run.sl.r_7 d M1 f1) (tc_run.sl.r_8 d M1 f1) (tc_run.sl.r_10 d M1 f1) (tc_run.sl.r_12 d M1 f1) (tc_run.sl.r_14 d M1 f1) (tc_run.sl.r_17 d M1 f1) (tc_run.sl.r_19 d M1 f1) (tc_run.sl.r_21 d M1 f1) (tc_run.sl.r_23 d M1 f1) (tc_run.sl.r_25 d M1 f1) (tc_run.sl.r_27 d M1 f1) (tc_run.sl.r_29 d M1 f1) (tc_run.sl.r_31 d M1 f1) (tc_run.sl.r_33 d M1 f1) (tc_run.sl.r_36 d M1 f1) = fun y => FloatOps.exp (tree (ldsTc M1 f1 y)).1 :=
    comb_mp (fun y => span (ldsTc M1 f1 y) 1 0) (fun y => span (ldsTc M1 f1 y) 1 2) (fun y => span (ldsTc M1 f1 y) 1 4) (fun y => span (ldsTc M1 f1 y) 1 6) (fun y => span (ldsTc M1 f1 y) 1 8) (fun y => span (ldsTc M1 f1 y) 1 10) (fun y => span (ldsTc M1 f1 y) 1 12) (fun y => span (ldsTc M1 f1 y) 1 14) (fun y => span (ldsTc M1 f1 y) 1 16) (fun y => span (ldsTc M1 f1 y) 1 18) (fun y => span (ldsTc M1 f1 y) 1 20) (fun y => span (ldsTc M1 f1 y) 1 22) (fun y => span (ldsTc M1 f1 y) 1 24) (fun y => ldsTc M1 f1 y 26) (fun y => ldsTc M1 f1 y 27) (fun y => ldsTc M1 f1 y 28)
  rw [show tc_run.sl.H4_1 d M1 f1 = [⟨Rect.unit (s := S8x2048) ![0, 0] S8x2048.size inb_S8x2048_S8x2048_0_0, k1_pay102 (tc_run.sl.r_7 d M1 f1) (tc_run.sl.r_8 d M1 f1) (tc_run.sl.r_10 d M1 f1) (tc_run.sl.r_12 d M1 f1) (tc_run.sl.r_14 d M1 f1) (tc_run.sl.r_17 d M1 f1) (tc_run.sl.r_19 d M1 f1) (tc_run.sl.r_21 d M1 f1) (tc_run.sl.r_23 d M1 f1) (tc_run.sl.r_25 d M1 f1) (tc_run.sl.r_27 d M1 f1) (tc_run.sl.r_29 d M1 f1) (tc_run.sl.r_31 d M1 f1) (tc_run.sl.r_33 d M1 f1) (tc_run.sl.r_36 d M1 f1)⟩] from rfl, hM]
  sl_step
  isplitl [H1]; · iexact H1
  isplitl [H2]
  · iexists _; isplitr
    swap; · iexact H2
    ipureintro
    rw [read_stored]
    funext y; rw [ldsTc_eq]; rfl
  isplitl [H3]
  · iexists _; isplitr
    swap; · iexact H3
    ipureintro
    rw [read_stored]
    funext y
    show Scalar.extui (Scalar.andi (Scalar.cmpi .ne (tree (ldsTc M1 f1 y)).2 0#32) (Scalar.cmpi .ne (tree (ldsTc M1 f1 y)).2 (concatenate S8x2048 1 _ _ y))) = _
    rw [show k1_pay103 = broadcast S8x1 4294967295#32 from rfl, shifted]
    unfold blkVal blkPrev blkIdx
    rw [ldsTc_eq, ldsTc_eq]
  iexists _; isplitr
  swap; · iexact H4
  ipureintro
  rw [read_stored]
  funext y; rw [ldsTc_eq]; rfl

end Cert.Proof

end
-- ==== Proof.Tc.lean ====
/-
  The TensorCore's part: the twelve grid points' runs as one region of @main, and what its three results hold.
-/
module

public import proofs.«01_k».proof.Proof.TcBody
public import Idealize.ShloMosaic.Lib.Pipeline.Frame

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.TcCoe

variable {F : FTy → Type} [FloatOps F]
local notation "𝕄" => MT nD τ sig (HIx 1) (Elt F) ℕ UU ℕ

/-! ## Where the blocks lie -/

/-- The score block of point `t` is block `t + 4` of the rows. -/
theorem tr_in : ∀ t : Fin grid1.N, cc1_transform_0 (grid1.coords t) = ![0, t.val + 4, 0] := by decide +kernel
/-- So are the result blocks. -/
theorem tr_outI : ∀ t : Fin grid1.N, cc1_transform_1 (grid1.coords t) = ![t.val + 4, 0] := by decide +kernel
/-- So are the result blocks. -/
theorem tr_outV : ∀ t : Fin grid1.N, cc1_transform_2 (grid1.coords t) = ![t.val + 4, 0] := by decide +kernel
/-- So are the result blocks. -/
theorem tr_outM : ∀ t : Fin grid1.N, cc1_transform_3 (grid1.coords t) = ![t.val + 4, 0] := by decide +kernel

/-- The batch row that row `r` of point `t`'s block is. -/
def rowAt (t : Fin grid1.N) (r : Fin 8) : Fin 128 := ⟨(t.val + 4) * 8 + r.val, by have h : t.val < 12 := t.isLt; omega⟩

theorem rowAt_val (t : Fin grid1.N) (r : Fin 8) : (rowAt t r).val = (t.val + 4) * 8 + r.val := rfl

theorem emb_in (t : Fin grid1.N) (v : Fin 29) (r : Fin 8) (p : Fin 2048) :
    ((cfg1.win 0).blk t).view.emb (ix3 v r p : S29x8x2048.Idx) = (ix3 v (rowAt t r) p : S29x128x2048.Idx) := by
  refine funext fun a => Fin.ext ?_
  have h := tr_in t
  match a with
  | ⟨0, _⟩ => show cc1_transform_0 (grid1.coords t) 0 * 29 + 1 * v.val = v.val; rw [h]; show 0 * 29 + 1 * v.val = v.val; omega
  | ⟨1, _⟩ => show cc1_transform_0 (grid1.coords t) 1 * 8 + 1 * r.val = (rowAt t r).val; rw [h, rowAt_val]; show (t.val + 4) * 8 + 1 * r.val = _; omega
  | ⟨2, _⟩ => show cc1_transform_0 (grid1.coords t) 2 * 2048 + 1 * p.val = p.val; rw [h]; show 0 * 2048 + 1 * p.val = p.val; omega

theorem emb_outI (t : Fin grid1.N) (y : S8x2048.Idx) : ((cfg1.win 1).blk t).view.emb y = (ix2 (rowAt t (y 0)) (y 1) : S128x2048.Idx) := by
  refine funext fun a => Fin.ext ?_
  have h := tr_outI t
  match a with
  | ⟨0, _⟩ => show cc1_transform_1 (grid1.coords t) 0 * 8 + 1 * (y 0).val = (t.val + 4) * 8 + (y 0).val; rw [h]; show (t.val + 4) * 8 + 1 * (y 0).val = _; omega
  | ⟨1, _⟩ => show cc1_transform_1 (grid1.coords t) 1 * 2048 + 1 * (y 1).val = (y 1).val; rw [h]; show 0 * 2048 + 1 * (y 1).val = _; omega

theorem emb_outV (t : Fin grid1.N) (y : S8x2048.Idx) : ((cfg1.win 2).blk t).view.emb y = (ix2 (rowAt t (y 0)) (y 1) : S128x2048.Idx) := by
  refine funext fun a => Fin.ext ?_
  have h := tr_outV t
  match a with
  | ⟨0, _⟩ => show cc1_transform_2 (grid1.coords t) 0 * 8 + 1 * (y 0).val = (t.val + 4) * 8 + (y 0).val; rw [h]; show (t.val + 4) * 8 + 1 * (y 0).val = _; omega
  | ⟨1, _⟩ => show cc1_transform_2 (grid1.coords t) 1 * 2048 + 1 * (y 1).val = (y 1).val; rw [h]; show 0 * 2048 + 1 * (y 1).val = _; omega

theorem emb_outM (t : Fin grid1.N) (y : S8x2048.Idx) : ((cfg1.win 3).blk t).view.emb y = (ix2 (rowAt t (y 0)) (y 1) : S128x2048.Idx) := by
  refine funext fun a => Fin.ext ?_
  have h := tr_outM t
  match a with
  | ⟨0, _⟩ => show cc1_transform_3 (grid1.coords t) 0 * 8 + 1 * (y 0).val = (t.val + 4) * 8 + (y 0).val; rw [h]; show (t.val + 4) * 8 + 1 * (y 0).val = _; omega
  | ⟨1, _⟩ => show cc1_transform_3 (grid1.coords t) 1 * 2048 + 1 * (y 1).val = (y 1).val; rw [h]; show 0 * 2048 + 1 * (y 1).val = _; omega

/-- A row from 32 on lies in the block of exactly this point. -/
theorem row_covered (i : S128x2048.Idx) (h : 32 ≤ (i 0).val) : ∃ (t : Fin grid1.N) (y : S8x2048.Idx), i = (ix2 (rowAt t (y 0)) (y 1) : S128x2048.Idx) := by
  have h0 : (i 0).val < 128 := (i 0).isLt
  refine ⟨⟨(i 0).val / 8 - 4, by rw [N_1]; omega⟩, ix2 (⟨(i 0).val % 8, by omega⟩ : Fin 8) (i 1), funext fun a => Fin.ext ?_⟩
  match a with
  | ⟨0, _⟩ =>
    show (i 0).val = (rowAt ⟨(i 0).val / 8 - 4, by rw [N_1]; omega⟩ ⟨(i 0).val % 8, by omega⟩).val
    rw [rowAt_val]; show (i 0).val = ((i 0).val / 8 - 4 + 4) * 8 + (i 0).val % 8; omega
  | ⟨1, _⟩ => rfl

/-! ## What the results hold, over the transposed scores `A` -/

/-- The class word of every batch row and time. -/
def tcI (A : S29x128x2048.Idx → F .f32) (j : S128x2048.Idx) : BitVec 32 := (tree fun v => A (ix3 (Fin.ofNat 29 v) (j 0) (j 1))).2
/-- The probability. -/
def tcM (A : S29x128x2048.Idx → F .f32) (j : S128x2048.Idx) : F .f32 := FloatOps.exp (tree fun v => A (ix3 (Fin.ofNat 29 v) (j 0) (j 1))).1
/-- The class word one step before, minus one before the first. -/
def tcPrev (A : S29x128x2048.Idx → F .f32) (j : S128x2048.Idx) : BitVec 32 :=
  if (j 1).val = 0 then 4294967295#32 else tcI A (ix2 (j 0) (Fin.ofNat 2048 ((j 1).val - 1)))
/-- The mask word. -/
def tcV (A : S29x128x2048.Idx → F .f32) (j : S128x2048.Idx) : BitVec 32 :=
  Scalar.extui (Scalar.andi (Scalar.cmpi .ne (tcI A j) 0#32) (Scalar.cmpi .ne (tcI A j) (tcPrev A j)))

section Region

variable (W : (c : Dev nD) → Valuation τ sig (Elt F))

/-- The scores' block of point `t` as it is fetched. -/
abbrev stg (c : Dev nD) (t : Fin cfg1.N) : S29x8x2048.Idx → F .f32 := ((cfg1.win 0).blk t).view.read (Elt F) (W c (Proc.devRef .tc main_v2))

theorem stg_apply (c : Dev nD) (t : Fin cfg1.N) (v : Fin 29) (r : Fin 8) (p : Fin 2048) :
    stg W c t (ix3 v r p) = (W c (Proc.devRef .tc main_v2) : S29x128x2048.Idx → F .f32) (ix3 v (rowAt t r) p) := by
  show (W c (Proc.devRef .tc main_v2) : S29x128x2048.Idx → F .f32) (((cfg1.win 0).blk t).view.emb (ix3 v r p : S29x8x2048.Idx)) = _
  rw [emb_in]

/-- What each window's buffer holds after the body at a point. -/
def aft (c : Dev nD) : (w : Fin cfg1.W) → Fin cfg1.N → (cfg1.win w).block.Idx → Elt F (cfg1.win w).elt
  | ⟨0, _⟩ => fun t => stg W c t
  | ⟨1, _⟩ => fun t => blkIdx (stg W c t)
  | ⟨2, _⟩ => fun t => blkVal (stg W c t)
  | ⟨3, _⟩ => fun t => blkMp (stg W c t)
  | ⟨_ + 4, h⟩ => absurd h (Nat.not_lt.2 (Nat.le_add_left _ _))

/-- The recorded waits the region may be entered with: those of the call before it. -/
abbrev recd (c : Dev nD) : Set (SemLoc sig × HIx 1) := {p | (K (F := F)).lev (SparseCore.T c, p.1) p.2 ≤ 8}

/-- The region's data: the arrays as they are, each block as the body leaves it. -/
def dat (c : Dev nD) : Pipeline.Dat τ (Elt F) (HIx 1) ℕ UU ℕ cfg1 c where
  A w := W c (Proc.devRef .tc (Pipeline.arrRef spec1 w))
  after := aft W c
  Φ _ := Pipeline.scopedRest spec1 c
  q _ := fullShare
  owed _ := 0
  recorded _ := recd (F := F) c

abbrev adm : (p : Fin 1) → (pcfgs (F := F) p).Adm := fun p => (cfgs p).toPCfg_adm

def pdats : (p : Fin 1) → (c : Dev nD) → Pipeline.Dat τ (Elt F) (HIx 1) ℕ UU ℕ (Pipeline.pin (pcfgs (F := F)) adm p) c
  | ⟨0, _⟩ => fun c => dat W c
  | ⟨_ + 1, h⟩ => absurd h (Nat.not_lt.2 (Nat.le_add_left _ _))

theorem before_in (c : Dev nD) (t : Fin cfg1.N) (x : (cfg1.win 0).block.Idx → Elt F (cfg1.win 0).elt) : (dat W c).before 0 t x = stg W c t := by
  unfold Pipeline.Dat.before; rw [if_pos (fetch1_0 t)]; rfl

/-- A whole staging buffer at contents it reads as. -/
theorem owns_at (c : Dev nD) {sp : Space} {s : Shape} {e : EltTy} (M : Memref sig .tc sp s e) (h : M.IsWhole) (X : s.Idx → Elt F e) :
    (owns (c : Thread nD τ) M fullShare X : sProp (MT nD τ sig (HIx 1) (Elt F) ℕ UU ℕ)) = iprop(∃ f, ⌜M.view.read (Elt F) f = X⌝ ∗ pt c M f) := by
  unfold owns pt; rw [h.set_eq_univ]

theorem body_obligation (c : Dev nD) : Pipeline.BodyObligation (dat W c) (defs₀ (F := F)) 𝒱₀ (none : HIx 1) Set.univ := fun t => by
  rw [bigSep_W1, bigSep_W1]
  dsimp only
  rw [show (dat W c).Φ t.castSucc = (dat W c).Φ t.succ from rfl,
    show (dat W c).owesAt (none : HIx 1) t.castSucc = (dat W c).owesAt none t.succ from rfl]
  show _ ⊢ wp frame (wpE (defs₀ (F := F)) 𝒱₀ (c : Thread nD τ) none) Set.univ (bodyAt1 t) _
  have e0 := fun X => owns_at (F := F) c (st1_0 t) (stage_whole1 0 _) X
  have e1 := fun X => owns_at (F := F) c (st1_1 t) (stage_whole1 1 _) X
  have e2 := fun X => owns_at (F := F) c (st1_2 t) (stage_whole1 2 _) X
  have e3 := fun X => owns_at (F := F) c (st1_3 t) (stage_whole1 3 _) X
  iintro ⟨HΦ, Howes, ⟨%d0, H0⟩, ⟨%d1, H1⟩, ⟨%d2, H2⟩, ⟨%d3, H3⟩⟩
  ihave H0 := (Entails.of_eq (e0 _)) $$ H0
  ihave H1 := (Entails.of_eq (e1 _)) $$ H1
  ihave H2 := (Entails.of_eq (e2 _)) $$ H2
  ihave H3 := (Entails.of_eq (e3 _)) $$ H3
  icases H0 with ⟨%f0, %hf0, H0⟩
  icases H1 with ⟨%f1, -, H1⟩
  icases H2 with ⟨%f2, -, H2⟩
  icases H3 with ⟨%f3, -, H3⟩
  rw [before_in] at hf0
  iapply (wp_wand _ (wpE (defs₀ (F := F)) 𝒱₀ (c : Thread nD τ) none) Set.univ) $$ [H0 H1 H2 H3]
  · iapply (tc_run (F := F) c (grid1.coords t) (st1_0 t) _ (st1_1 t) _ (st1_2 t) _ (st1_3 t) _ f0 f1 f2 f3)
    isplitl [H0]; · iexact H0
    isplitl [H1]; · iexact H1
    isplitl [H2]; · iexact H2
    iexact H3
  iintro %_ ⟨H0, ⟨%w1, %h1, H1⟩, ⟨%w2, %h2, H2⟩, ⟨%w3, %h3, H3⟩⟩
  rw [hf0] at h1 h2 h3
  isplitl [HΦ]; · iexact HΦ
  isplitl [Howes]; · iexact Howes
  isplitl [H0]
  · iapply (Entails.of_eq (e0 _).symm)
    iexists f0; isplitr; swap; (· iexact H0); ipureintro; exact hf0
  isplitl [H1]
  · iapply (Entails.of_eq (e1 _).symm)
    iexists w1; isplitr; swap; (· iexact H1); ipureintro; exact h1
  isplitl [H2]
  · iapply (Entails.of_eq (e2 _).symm)
    iexists w2; isplitr; swap; (· iexact H2); ipureintro; exact h2
  iapply (Entails.of_eq (e3 _).symm)
  iexists w3; isplitr; swap; (· iexact H3); ipureintro; exact h3

/-! ## The results' arrays after the region -/

abbrev outI (c : Dev nD) : Buf (Elt F) ((c : Thread nD τ).loc main_v4_0) := (dat W c).arrAt 1 cfg1.N
abbrev outV (c : Dev nD) : Buf (Elt F) ((c : Thread nD τ).loc main_v4_1) := (dat W c).arrAt 2 cfg1.N
abbrev outM (c : Dev nD) : Buf (Elt F) ((c : Thread nD τ).loc main_v4_2) := (dat W c).arrAt 3 cfg1.N

/-- The transposed scores. -/
abbrev scs (c : Dev nD) : S29x128x2048.Idx → F .f32 := W c (Proc.devRef .tc main_v2)

theorem cls_stg (c : Dev nD) (t : Fin cfg1.N) (r : Fin 8) (p : Fin 2048) :
    clsAt (stg W c t) r p = fun v => scs W c (ix3 (Fin.ofNat 29 v) (rowAt t r) p) := funext fun v => stg_apply W c t _ r p

theorem blkIdx_stg (c : Dev nD) (t : Fin cfg1.N) (y : S8x2048.Idx) : blkIdx (stg W c t) y = tcI (scs W c) (ix2 (rowAt t (y 0)) (y 1)) := by
  show (tree (clsAt (stg W c t) (y 0) (y 1))).2 = _
  exact congrArg (fun x => (tree x).2) (cls_stg W c t (y 0) (y 1))

theorem outI_apply (c : Dev nD) (i : S128x2048.Idx) (h : 32 ≤ (i 0).val) : outI W c i = tcI (scs W c) i := by
  obtain ⟨t, y, rfl⟩ := row_covered i h
  refine (dat W c).arrAt_apply_of_mem 1 (tcI (scs W c)) (fun t _ => funext fun y => ?_) cfg1.N t _ t.isLt (flush1_1 t)
    (emb_outI t y ▸ ((cfg1.win 1).blk t).view.emb_mem_set y)
  show blkIdx (stg W c t) y = tcI (scs W c) (((cfg1.win 1).blk t).view.emb y)
  rw [emb_outI, blkIdx_stg]

theorem outV_apply (c : Dev nD) (i : S128x2048.Idx) (h : 32 ≤ (i 0).val) : outV W c i = tcV (scs W c) i := by
  obtain ⟨t, y, rfl⟩ := row_covered i h
  refine (dat W c).arrAt_apply_of_mem 2 (tcV (scs W c)) (fun t _ => funext fun y => ?_) cfg1.N t _ t.isLt (flush1_2 t)
    (emb_outV t y ▸ ((cfg1.win 2).blk t).view.emb_mem_set y)
  show blkVal (stg W c t) y = tcV (scs W c) (((cfg1.win 2).blk t).view.emb y)
  rw [emb_outV]
  unfold blkVal tcV blkPrev tcPrev
  rw [blkIdx_stg, blkIdx_stg]

theorem outM_apply (c : Dev nD) (i : S128x2048.Idx) (h : 32 ≤ (i 0).val) : outM W c i = tcM (scs W c) i := by
  obtain ⟨t, y, rfl⟩ := row_covered i h
  refine (dat W c).arrAt_apply_of_mem 3 (tcM (scs W c)) (fun t _ => funext fun y => ?_) cfg1.N t _ t.isLt (flush1_3 t)
    (emb_outM t y ▸ ((cfg1.win 3).blk t).view.emb_mem_set y)
  show blkMp (stg W c t) y = tcM (scs W c) (((cfg1.win 3).blk t).view.emb y)
  rw [emb_outM]
  exact congrArg (fun x => FloatOps.exp (tree x).1) (cls_stg W c t (y 0) (y 1))

/-! ## The region as @main enters it -/

variable (W' : (c : Dev nD) → Valuation τ sig (Elt F))

/-- What the core owes around the region, and the waits it has recorded. -/
abbrev idleTc (c : Dev nD) : sProp (MT nD τ sig (HIx 1) (Elt F) ℕ UU ℕ) :=
  iprop(∃ Wd, ⌜(K (F := F)).WBelow (SparseCore.T c) Wd 8⌝ ∗ owes (SparseCore.T c) (0 : CellTallies nD τ sig (HIx 1)) Wd)

set_option backward.isDefEq.respectTransparency.types false in
/-- The region, from every unscoped buffer at `W` to the same at `W'`, which has the three results at what the points wrote. -/
def reg (hI : ∀ c, W' c (Proc.devRef .tc main_v4_0) = outI W c) (hV : ∀ c, W' c (Proc.devRef .tc main_v4_1) = outV W c)
    (hM : ∀ c, W' c (Proc.devRef .tc main_v4_2) = outM W c)
    (hne : ∀ c (b : Ref sig .tc), b ≠ main_v4_0 → b ≠ main_v4_1 → b ≠ main_v4_2 → W' c (Proc.devRef .tc b) = W c (Proc.devRef .tc b)) :
    Pipeline.RegionSeg (pcfgs (F := F)) adm (pdats W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(unscopedBufs c (fun b => W c b) ∗ idleTc c)
  post c := iprop(unscopedBufs c (fun b => W' c b) ∗ idleTc c)
  X _ := BI.emp
  Y _ := BI.emp
  Z c := Pipeline.unscopedRest (Ix := HIx 1) (Name := ℕ) (U := UU) (Lvl := ℕ) spec1 c (fun b => W c b)
  hentry c := by
    rw [Pipeline.ownSems0_none]
    have hsplit := Pipeline.arrays_of_unscopedBufs (p := 0) (pcfgs (F := F)) adm (pdats W) launch1.win launch1.arr_whole c
      ((pdats W 0 c).share_full fun _ => rfl) (fun b => W c b) fun _ => rfl
    iintro ⟨⟨Hub, ⟨%Wd, %hWd, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists Wd; isplitr; · ipureintro; exact fun p hp => Or.inl (hWd p hp)
      iexact HO
    isplitr; · iempintro
    iexact Hrest
  hin c := by
    rw [show (pdats W 0 c).Φ 0 = Pipeline.scopedRest spec1 c from rfl]
    iintro ⟨-, -, Hr⟩; iexact Hr
  hout c := by
    rw [Pipeline.ownSems0_none, show (pdats W 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats W) ((pdats W 0 c).share_full fun _ => rfl) (fun b => W c b) (fun b => W' c b) ((pdats W 0 c).arrAt · cfg1.N)
      (fun w => by
        fin_cases w
        · exact ((pdats W 0 c).arrAt_in 0 rfl _).trans (hne c main_v2 (by decide) (by decide) (by decide)).symm
        · exact (hI c).symm
        · exact (hV c).symm
        · exact (hM c).symm)
      (fun b hb => hne c b (fun h => hb (h ▸ Finset.mem_image.mpr ⟨1, Finset.mem_univ _, rfl⟩)) (fun h => hb (h ▸ Finset.mem_image.mpr ⟨2, Finset.mem_univ _, rfl⟩))
        (fun h => hb (h ▸ Finset.mem_image.mpr ⟨3, Finset.mem_univ _, rfl⟩)))
    iintro ⟨Ha, ⟨%Wd, %hWd, HO⟩, -, Hrest⟩
    imodintro
    isplitl [Ha Hrest]
    · iapply hjoin; isplitl [Ha] <;> iassumption
    iexists Wd; isplitr
    · ipureintro
      intro p hp
      rcases hWd hp with h | ⟨w, s, rfl⟩
      · exact h
      · exact Nat.zero_le _
    iexact HO

end Region

end Cert.Proof

end
-- ==== Proof.Rows.lean ====
/-
  What one task computes of its row, at an index, and the reads and writes of the row's buffers: a group of 16
  timesteps loaded of one class, a group stored.
-/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]

/-! ## The row's results -/

/-- The log-probabilities of one batch row: class, sublane (timestep / 128), lane (timestep mod 128). -/
abbrev RowLp (F : FTy → Type) : Type := Fin 29 → Fin 16 → Fin 128 → F .f32

/-- The 29 classes at one timestep. -/
abbrev classes (X : RowLp F) (r : Fin 16) (l : Fin 128) : ℕ → F .f32 := fun v => X (Fin.ofNat 29 v) r l

/-- The timestep an index of the row stands for. -/
abbrev pos (y : S16x128.Idx) : ℕ := (y 0).val * 128 + (y 1).val

/-- The index of a timestep. -/
abbrev atPos (p : ℕ) : S16x128.Idx := ix2 (Fin.ofNat 16 (p / 128)) (Fin.ofNat 128 (p % 128))

/-- The class chosen at a timestep. -/
def idxAtRow (X : RowLp F) (y : S16x128.Idx) : BitVec 32 := (tree (classes X (y 0) (y 1))).2

/-- The probability of the chosen class. -/
def mpAtRow (X : RowLp F) (y : S16x128.Idx) : F .f32 := FloatOps.exp (tree (classes X (y 0) (y 1))).1

/-- The kept flag of a word and the word before it at timestep `t`, as a word: not blank, and new (or first). -/
def keep (cur prev t : BitVec 32) : BitVec 32 :=
  Scalar.extui (Scalar.andi (Scalar.cmpi .ne cur 0#32) (Scalar.ori (Scalar.cmpi .ne cur prev) (Scalar.cmpi .eq t 0#32)))

/-- The kept flag at a timestep. -/
def valAtRow (X : RowLp F) (y : S16x128.Idx) : BitVec 32 :=
  keep (idxAtRow X y) (idxAtRow X (atPos (pos y - 1))) (BitVec.ofNat 32 (pos y))

omit [FloatOps F] in
theorem pos_lt (y : S16x128.Idx) : pos y < 2048 := by
  have h0 : (y 0).val < 16 := (y 0).isLt
  have h1 : (y 1).val < 128 := (y 1).isLt
  show (y 0).val * 128 + (y 1).val < 2048
  omega

omit [FloatOps F] in
theorem pos_atPos {p : ℕ} (h : p < 2048) : pos (atPos p) = p := by
  show (p / 128) % 16 * 128 + (p % 128) % 128 = p
  omega

/-! ## A group of 16 timesteps -/

/-- The 16 timesteps of one class that a load at `off` brings. -/
def ldAt (m : Memref sig .scVector .vmem S29x8x128 .f32) (f : m.view.ty.Contents (Elt F)) (off : Fin 3 → ℕ)
    (inb : ∀ a, off a + S1x1x16.size a ≤ S29x8x128.size a) : S16.Idx → F .f32 :=
  shapeCast S16 (m.view.readAt (Elt F) (Rect.unit (s := S29x8x128) off S1x1x16.size inb).toLoadRect f) shapeCasts_S1x1x16_S16

omit [FloatOps F] in
/-- Lane `l` of that load is the buffer at class `v`, sublane `r`, lane `c + l`. -/
theorem ldAt_apply (m : Memref sig .scVector .vmem S29x8x128 .f32) (f : m.view.ty.Contents (Elt F)) {off : Fin 3 → ℕ}
    (inb : ∀ a, off a + S1x1x16.size a ≤ S29x8x128.size a) {v r c : ℕ} (hoff : off = ![v, r, c]) (x : S16.Idx)
    (i : S29x8x128.Idx) (h0 : (i 0).val = v) (h1 : (i 1).val = r) (h2 : (i 2).val = c + (x 0).val) :
    ldAt m f off inb x = m.view.read (Elt F) f i := by
  subst hoff
  unfold ldAt
  rw [shapeCast_apply _ _ x (ix3 (0 : Fin 1) (0 : Fin 1) (x 0) : S1x1x16.Idx) (by
    rw [Shape.rowMajor_val_three, Shape.rowMajor_val_one]; simp)]
  refine congrArg (m.view.read (Elt F) f) (funext fun a => Fin.ext ?_)
  match a with
  | ⟨0, _⟩ => show v + 1 * 0 = (i 0).val; omega
  | ⟨1, _⟩ => show r + 1 * 0 = (i 1).val; omega
  | ⟨2, _⟩ => show c + 1 * (x 0).val = (i 2).val; omega

omit [FloatOps F] in
/-- Lane `l` of a 16-timestep load of a row buffer at sublane `r`, lane `c` on. -/
theorem ldRow_apply {e : EltTy} (m : Memref sig .scVector .vmem S16x128 e) (f : m.view.ty.Contents (Elt F)) {off : Fin 2 → ℕ}
    (inb : ∀ a, off a + S1x16.size a ≤ S16x128.size a) {r c : ℕ} (hoff : off = ![r, c]) (x : S16.Idx)
    (i : S16x128.Idx) (h0 : (i 0).val = r) (h1 : (i 1).val = c + (x 0).val) :
    shapeCast S16 (m.view.readAt (Elt F) (Rect.unit (s := S16x128) off S1x16.size inb).toLoadRect f) shapeCasts_S1x16_S16 x
      = m.view.read (Elt F) f i := by
  subst hoff
  rw [shapeCast_apply _ _ x (ix2 (0 : Fin 1) (x 0) : S1x16.Idx) (by
    rw [Shape.rowMajor_val_two, Shape.rowMajor_val_one]; simp)]
  refine congrArg (m.view.read (Elt F) f) (funext fun a => Fin.ext ?_)
  match a with
  | ⟨0, _⟩ => show r + 1 * 0 = (i 0).val; omega
  | ⟨1, _⟩ => show c + 1 * (x 0).val = (i 1).val; omega

omit [FloatOps F] in
/-- Group `n` stored over a row whose first `n` groups are already as `spec` says: the first `n + 1` are. -/
theorem stored_group {e : EltTy} (m : Memref sig .scVector .vmem S16x128 e) (f : m.view.ty.Contents (Elt F)) {off : Fin 2 → ℕ}
    (inb : ∀ a, off a + S1x16.size a ≤ S16x128.size a) (w : S16.Idx → Elt F e) (n : ℕ)
    (hoff : off = ![n / 8, n % 8 * 16]) (spec : S16x128.Idx → Elt F e)
    (hold : ∀ y, pos y < 16 * n → m.view.read (Elt F) f y = spec y)
    (hw : ∀ (x : S16.Idx) (y : S16x128.Idx), pos y = 16 * n + (x 0).val → w x = spec y) (y : S16x128.Idx)
    (hy : pos y < 16 * (n + 1)) :
    m.view.read (Elt F) (m.view.writes (Elt F) f
      [⟨Rect.unit (s := S16x128) off S1x16.size inb, shapeCast S1x16 w shapeCasts_S16_S1x16⟩]) y = spec y := by
  have h0 : (y 0).val < 16 := (y 0).isLt
  have h1 : (y 1).val < 128 := (y 1).isLt
  have hp : pos y = (y 0).val * 128 + (y 1).val := rfl
  by_cases hlt : pos y < 16 * n
  · refine Eq.trans ?_ (hold y hlt)
    by_cases hc : (y 0).val = n / 8
    · exact View.read_writes_cons_unit_of_not_mem m.view f inb _ [] y hoff 1 (.inl (show (y 1).val < n % 8 * 16 by omega))
    · exact View.read_writes_cons_unit_of_not_mem m.view f inb _ [] y hoff 0 (.inl (show (y 0).val < n / 8 by omega))
  · have hx : (y 1).val - n % 8 * 16 < 16 := by omega
    rw [View.read_writes_cons_unit_of_mem m.view f inb _ [] y (ix2 (0 : Fin 1) (⟨(y 1).val - n % 8 * 16, hx⟩ : Fin 16) : S1x16.Idx) hoff (fun a => by
      match a with
      | ⟨0, _⟩ => show (y 0).val = n / 8 + 0; omega
      | ⟨1, _⟩ => show (y 1).val = n % 8 * 16 + ((y 1).val - n % 8 * 16); omega)]
    rw [shapeCast_apply _ _ _ (ix1 (⟨(y 1).val - n % 8 * 16, hx⟩ : Fin 16) : S16.Idx) (by
      rw [Shape.rowMajor_val_two, Shape.rowMajor_val_one]; simp)]
    exact hw _ y (by show pos y = 16 * n + ((y 1).val - n % 8 * 16); omega)

end Cert.Proof

end
-- ==== Proof.Offs.lean ====
/-
  Where a task's loads and stores of one group of 16 timesteps stand.
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

/-- Everything a row buffer holds of its first `n` groups is as `spec` says. -/
def Done {e : EltTy} (m : Memref sig .scVector .vmem S16x128 e) (f : m.view.ty.Contents (Elt F)) (n : ℕ) (spec : S16x128.Idx → Elt F e) : Prop :=
  ∀ y, pos y < 16 * n → m.view.read (Elt F) f y = spec y

/-! ## Where the 29 loads of a group stand -/

/-- The offsets of the 29 loads of a group of the first half, in the classes' order. -/
abbrev offsA (k : Fin k0_t1_loop.trips) : Fin 29 → Fin 3 → ℕ :=
  ![k0_off3 k, k0_off4 k, k0_off5 k, k0_off6 k, k0_off7 k, k0_off8 k, k0_off9 k, k0_off10 k, k0_off11 k, k0_off12 k, k0_off13 k, k0_off14 k, k0_off15 k, k0_off16 k, k0_off17 k, k0_off18 k, k0_off19 k, k0_off20 k, k0_off21 k, k0_off22 k, k0_off23 k, k0_off24 k, k0_off25 k, k0_off26 k, k0_off27 k, k0_off28 k, k0_off29 k, k0_off30 k, k0_off31 k]

/-- The offsets of the 29 loads of a group of the second half. -/
abbrev offsB (k : Fin k0_t3_loop.trips) : Fin 29 → Fin 3 → ℕ :=
  ![k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k, k0_off56 k, k0_off57 k, k0_off58 k, k0_off59 k, k0_off60 k, k0_off61 k, k0_off62 k, k0_off63 k]

set_option maxRecDepth 10000 in
theorem offsA_eq : ∀ (k : Fin k0_t1_loop.trips) (v : Fin 29), offsA k v = ![v.val, k.val / 8, k.val % 8 * 16] := by decide +kernel
set_option maxRecDepth 10000 in
theorem offsB_eq : ∀ (k : Fin k0_t3_loop.trips) (v : Fin 29), offsB k v = ![v.val, k.val / 8, k.val % 8 * 16] := by decide +kernel

/-- The offsets of the stores of a group: its own place in the row, the second half's after the first's 64 groups. -/
theorem offStA_eq : ∀ k : Fin k0_t1_loop.trips, k0_off32 k = ![k.val / 8, k.val % 8 * 16] := by decide +kernel
theorem offStB_eq : ∀ k : Fin k0_t3_loop.trips, k0_off64 k = ![(64 + k.val) / 8, (64 + k.val) % 8 * 16] := by decide +kernel

theorem group_inb {n v : ℕ} (hv : v < 29) (hn : n < 64) : ∀ a, (![v, n / 8, n % 8 * 16] : Fin 3 → ℕ) a + S1x1x16.size a ≤ S29x8x128.size a := by
  intro a
  match a with
  | ⟨0, _⟩ => show v + 1 ≤ 29; omega
  | ⟨1, _⟩ => show n / 8 + 1 ≤ 8; omega
  | ⟨2, _⟩ => show n % 8 * 16 + 16 ≤ 128; omega

theorem inbA (k : Fin k0_t1_loop.trips) (v : Fin 29) : ∀ a, offsA k v a + S1x1x16.size a ≤ S29x8x128.size a := by
  rw [offsA_eq]; exact group_inb v.isLt k.isLt
theorem inbB (k : Fin k0_t3_loop.trips) (v : Fin 29) : ∀ a, offsB k v a + S1x1x16.size a ≤ S29x8x128.size a := by
  rw [offsB_eq]; exact group_inb v.isLt k.isLt

/-- Class `v` of a group, as loaded. -/
def lanesA (k : Fin k0_t1_loop.trips) (f : (b0).view.ty.Contents (Elt F)) (v : ℕ) : S16.Idx → F .f32 :=
  ldAt b0 f (offsA k (Fin.ofNat 29 v)) (inbA k _)
def lanesB (k : Fin k0_t3_loop.trips) (f : (b1).view.ty.Contents (Elt F)) (v : ℕ) : S16.Idx → F .f32 :=
  ldAt b1 f (offsB k (Fin.ofNat 29 v)) (inbB k _)

end Cert.Proof

end
-- ==== Proof.Pass1A.lean ====
/-
  Pass 1 of a task over its first half, one group of 16 timesteps: the 29 classes of the group loaded, the tree, its
  two results stored.
-/
module

public import proofs.«01_k».proof.Proof.Offs

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

set_option maxHeartbeats 4000000 in
/-- Trip `k` of pass 1 over the first half: the class words of group `k` are stored in the index row, their
    probabilities in the probability row. -/
theorem tripA (d : Dev nD) (L : grid0.Coords) (k : Fin k0_t1_loop.trips) (v2 : IVec S16 32)
    (f6 : Buf (Elt F) ((V d (cV L) (jV L)).loc cc0_scratch0)) (f8 : Buf (Elt F) ((V d (cV L) (jV L)).loc cc0_scratch2))
    (f10 : Buf (Elt F) ((V d (cV L) (jV L)).loc cc0_scratch4)) :
    iprop(((b0).view.loc (V d (cV L) (jV L)) ↦{fullShare} f6) ∗ ((rI).view.loc (V d (cV L) (jV L)) ↦{fullShare} f8)
        ∗ ((rM).view.loc (V d (cV L) (jV L)) ↦{fullShare} f10))
      ⊢ wp frame (wpE (defs₀ (F := F)) 𝒱₀ (V d (cV L) (jV L)) none) Set.univ
          (k0_t1_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 v2 k ())
          fun _ => iprop(((b0).view.loc (V d (cV L) (jV L)) ↦{fullShare} f6)
            ∗ ((rI).view.loc (V d (cV L) (jV L)) ↦{fullShare} (rI).view.writes (Elt F) f8
                [⟨Rect.unit (s := S16x128) (k0_off32 k) S1x16.size (k0_off32_inb k),
                  shapeCast S1x16 (fun x : S16.Idx => (tree fun v => lanesA k f6 v x).2) shapeCasts_S16_S1x16⟩])
            ∗ ((rM).view.loc (V d (cV L) (jV L)) ↦{fullShare} (rM).view.writes (Elt F) f10
                [⟨Rect.unit (s := S16x128) (k0_off32 k) S1x16.size (k0_off32_inb k),
                  shapeCast S1x16 (fun x : S16.Idx => FloatOps.exp (tree fun v => lanesA k f6 v x).1) shapeCasts_S16_S1x16⟩]) : sProp 𝕄) := by
  iintro ⟨H6, H8, H10⟩
  unfold k0_t1_body
  sl_exec
  rw [show tripA.sl.r_32 d L k f6 = (fun x : S16.Idx => (tree fun v => lanesA k f6 v x).2) from rfl]
  rw [show k0_pay187 (tripA.sl.r_31 d L k f6) = (fun x : S16.Idx => FloatOps.exp (tree fun v => lanesA k f6 v x).1) from rfl]
  sl_step
  isplitl [H6]; · iexact H6
  isplitl [H8]; · iexact H8
  iexact H10

end Cert.Proof

end
-- ==== Proof.Pass1B.lean ====
/-
  Pass 1 of a task over its second half, one group of 16 timesteps: the 29 classes of the group loaded, the tree, its
  two results stored.
-/
module

public import proofs.«01_k».proof.Proof.Offs

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

set_option maxHeartbeats 4000000 in
/-- Trip `k` of pass 1 over the second half: the class words of group `k` are stored in the index row, their
    probabilities in the probability row. -/
theorem tripB (d : Dev nD) (L : grid0.Coords) (k : Fin k0_t3_loop.trips) (v2 : IVec S16 32)
    (f6 : Buf (Elt F) ((V d (cV L) (jV L)).loc cc0_scratch1)) (f8 : Buf (Elt F) ((V d (cV L) (jV L)).loc cc0_scratch2))
    (f10 : Buf (Elt F) ((V d (cV L) (jV L)).loc cc0_scratch4)) :
    iprop(((b1).view.loc (V d (cV L) (jV L)) ↦{fullShare} f6) ∗ ((rI).view.loc (V d (cV L) (jV L)) ↦{fullShare} f8)
        ∗ ((rM).view.loc (V d (cV L) (jV L)) ↦{fullShare} f10))
      ⊢ wp frame (wpE (defs₀ (F := F)) 𝒱₀ (V d (cV L) (jV L)) none) Set.univ
          (k0_t3_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 v2 k ())
          fun _ => iprop(((b1).view.loc (V d (cV L) (jV L)) ↦{fullShare} f6)
            ∗ ((rI).view.loc (V d (cV L) (jV L)) ↦{fullShare} (rI).view.writes (Elt F) f8
                [⟨Rect.unit (s := S16x128) (k0_off64 k) S1x16.size (k0_off64_inb k),
                  shapeCast S1x16 (fun x : S16.Idx => (tree fun v => lanesB k f6 v x).2) shapeCasts_S16_S1x16⟩])
            ∗ ((rM).view.loc (V d (cV L) (jV L)) ↦{fullShare} (rM).view.writes (Elt F) f10
                [⟨Rect.unit (s := S16x128) (k0_off64 k) S1x16.size (k0_off64_inb k),
                  shapeCast S1x16 (fun x : S16.Idx => FloatOps.exp (tree fun v => lanesB k f6 v x).1) shapeCasts_S16_S1x16⟩]) : sProp 𝕄) := by
  iintro ⟨H6, H8, H10⟩
  unfold k0_t3_body
  sl_exec
  rw [show tripB.sl.r_32 d L k f6 = (fun x : S16.Idx => (tree fun v => lanesB k f6 v x).2) from rfl]
  rw [show k0_pay192 (tripB.sl.r_31 d L k f6) = (fun x : S16.Idx => FloatOps.exp (tree fun v => lanesB k f6 v x).1) from rfl]
  sl_step
  isplitl [H6]; · iexact H6
  isplitl [H8]; · iexact H8
  iexact H10

end Cert.Proof

end
-- ==== Proof.Pass2A.lean ====
/-
  Pass 2 of a task over its first half, one group of 16 timesteps: the group's class words loaded, the words one
  timestep earlier gathered, the kept flags stored.
-/
module

public import proofs.«01_k».proof.Proof.Offs
public import Idealize.ShloMosaic.Lib.SparseCore.Ops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

/-- The lane numbers 0 … 15. -/
abbrev laneA : IVec S16 32 := iota .scVector S16 32 [0] iota_S16_d0_w32_scVector

/-- The timesteps of group `k`. -/
theorem timeA : ∀ (k : Fin k0_t2_loop.trips) (l : Fin 16), k0_pay92 laneA 0#32 1#32 k (ix1 l) = BitVec.ofNat 32 (16 * k.val + l.val) := by decide +kernel

/-- The gathered index's sublane and lane: those of the timestep before (the first timestep's own at the very start). -/
theorem subA : ∀ (k : Fin k0_t2_loop.trips) (l : Fin 16), (k0_pay189 (k0_pay92 laneA 0#32 1#32 k) k0_pay93 (ix1 l)).toNat = (16 * k.val + l.val - 1) / 128 := by decide +kernel
theorem lanA : ∀ (k : Fin k0_t2_loop.trips) (l : Fin 16), (k0_pay190 (k0_pay92 laneA 0#32 1#32 k) k0_pay93 (ix1 l)).toNat = (16 * k.val + l.val - 1) % 128 := by decide +kernel

theorem offLdA_eq : ∀ k : Fin k0_t2_loop.trips, k0_off33 k = ![k.val / 8, k.val % 8 * 16] := by decide +kernel
theorem offSt2A_eq : ∀ k : Fin k0_t2_loop.trips, k0_off34 k = ![k.val / 8, k.val % 8 * 16] := by decide +kernel

/-- Every gathered index is inside the index row. -/
theorem chkA (k : Fin k0_t2_loop.trips) : k0_chk1 (k0_pay189 (k0_pay92 laneA 0#32 1#32 k) k0_pay93) (k0_pay190 (k0_pay92 laneA 0#32 1#32 k) k0_pay93) := by
  intro a x
  obtain ⟨l, rfl⟩ : ∃ l, x = ix1 l := ⟨x 0, eq_ix1 x⟩
  have hk : k.val < 64 := k.isLt
  match a with
  | ⟨0, _⟩ => exact lt_of_eq_of_lt (subA k l) (show _ < 16 by have := l.isLt; omega)
  | ⟨1, _⟩ => exact lt_of_eq_of_lt (lanA k l) (show _ < 128 by omega)

/-- The kept flags of group `k`, from the index row. -/
def flagsA (k : Fin k0_t2_loop.trips) (f : (rI).view.ty.Contents (Elt F)) : S16.Idx → BitVec 32 := fun x =>
  keep ((rI).view.read (Elt F) f (atPos (16 * k.val + (x 0).val))) ((rI).view.read (Elt F) f (atPos (16 * k.val + (x 0).val - 1)))
    (BitVec.ofNat 32 (16 * k.val + (x 0).val))

theorem flagsA_eq (k : Fin k0_t2_loop.trips) (f : (rI).view.ty.Contents (Elt F)) (h : ∀ a x, ((![k0_pay189 (k0_pay92 laneA 0#32 1#32 k) k0_pay93, k0_pay190 (k0_pay92 laneA 0#32 1#32 k) k0_pay93] : Fin 2 → IVec S16 32) a x).toNat < S16x128.size a) :
    k0_pay191 (F := F) (shapeCast S16 ((rI).view.readAt (Elt F) (Rect.unit (s := S16x128) (k0_off33 k) S1x16.size (k0_off33_inb k)).toLoadRect f) shapeCasts_S1x16_S16)
        (k0_pay92 laneA 0#32 1#32 k) (loadIdx (F := F) (e := .i32) (((rI).access (.whole S16x128)).read (Elt F) f) ![k0_pay189 (k0_pay92 laneA 0#32 1#32 k) k0_pay93, k0_pay190 (k0_pay92 laneA 0#32 1#32 k) k0_pay93] h)
      = flagsA k f := by
  funext x
  obtain ⟨l, rfl⟩ : ∃ l, x = ix1 l := ⟨x 0, eq_ix1 x⟩
  have hk : k.val < 64 := k.isLt
  have hl : l.val < 16 := l.isLt
  have e1 := ldRow_apply rI f (k0_off33_inb k) (offLdA_eq k) (ix1 l : S16.Idx) (atPos (16 * k.val + l.val))
    (by show (16 * k.val + l.val) / 128 % 16 = _; omega) (by show (16 * k.val + l.val) % 128 % 128 = k.val % 8 * 16 + l.val; omega)
  have e2 : loadIdx (F := F) (e := .i32) (((rI).access (.whole S16x128)).read (Elt F) f) ![k0_pay189 (k0_pay92 laneA 0#32 1#32 k) k0_pay93, k0_pay190 (k0_pay92 laneA 0#32 1#32 k) k0_pay93] h (ix1 l)
      = (rI).view.read (Elt F) f (atPos (16 * k.val + l.val - 1)) := by
    refine congrArg ((rI).view.read (Elt F) f) (funext fun a => Fin.ext ?_)
    match a with
    | ⟨0, _⟩ =>
      show 0 + 1 * (k0_pay189 (k0_pay92 laneA 0#32 1#32 k) k0_pay93 (ix1 l)).toNat = (16 * k.val + l.val - 1) / 128 % 16
      rw [subA]; omega
    | ⟨1, _⟩ =>
      show 0 + 1 * (k0_pay190 (k0_pay92 laneA 0#32 1#32 k) k0_pay93 (ix1 l)).toNat = (16 * k.val + l.val - 1) % 128 % 128
      rw [lanA]; omega
  show keep (shapeCast S16 ((rI).view.readAt (Elt F) (Rect.unit (s := S16x128) (k0_off33 k) S1x16.size (k0_off33_inb k)).toLoadRect f) shapeCasts_S1x16_S16 (ix1 l))
    (loadIdx (F := F) (e := .i32) (((rI).access (.whole S16x128)).read (Elt F) f) ![k0_pay189 (k0_pay92 laneA 0#32 1#32 k) k0_pay93, k0_pay190 (k0_pay92 laneA 0#32 1#32 k) k0_pay93] h (ix1 l)) (k0_pay92 laneA 0#32 1#32 k (ix1 l)) = _
  rw [e1, e2, timeA]
  rfl

set_option maxHeartbeats 400000 in
/-- Trip `k` of pass 2 over the first half: the kept flags of group `k` are stored. -/
theorem keepA (d : Dev nD) (L : grid0.Coords) (k : Fin k0_t2_loop.trips)
    (f8 : Buf (Elt F) ((V d (cV L) (jV L)).loc cc0_scratch2)) (f9 : Buf (Elt F) ((V d (cV L) (jV L)).loc cc0_scratch3)) :
    iprop(((rI).view.loc (V d (cV L) (jV L)) ↦{fullShare} f8) ∗ ((rV).view.loc (V d (cV L) (jV L)) ↦{fullShare} f9))
      ⊢ wp frame (wpE (defs₀ (F := F)) 𝒱₀ (V d (cV L) (jV L)) none) Set.univ
          (k0_t2_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 laneA k ())
          fun _ => iprop(((rI).view.loc (V d (cV L) (jV L)) ↦{fullShare} f8)
            ∗ ((rV).view.loc (V d (cV L) (jV L)) ↦{fullShare} (rV).view.writes (Elt F) f9
                [⟨Rect.unit (s := S16x128) (k0_off34 k) S1x16.size (k0_off34_inb k),
                  shapeCast S1x16 (flagsA k f8) shapeCasts_S16_S1x16⟩]) : sProp 𝕄) := by
  iintro ⟨H8, H9⟩
  unfold k0_t2_body
  sl_exec
  have t87 : ∀ (k : Fin k0_t2_loop.trips) (l : Fin 16), keepA.sl.v87 k (ix1 l) = BitVec.ofNat 32 (16 * k.val + l.val) := by decide +kernel
  have e87 : keepA.sl.v87 k = k0_pay92 laneA 0#32 1#32 k := by
    funext x
    obtain ⟨l, rfl⟩ : ∃ l, x = ix1 l := ⟨x 0, eq_ix1 x⟩
    rw [t87, timeA]
  have e88 : keepA.sl.v88 = k0_pay93 := rfl
  have e93 : keepA.sl.v93 k = k0_pay189 (k0_pay92 laneA 0#32 1#32 k) k0_pay93 := by unfold keepA.sl.v93; rw [e87, e88]
  have e95 : keepA.sl.v95 k = k0_pay190 (k0_pay92 laneA 0#32 1#32 k) k0_pay93 := by unfold keepA.sl.v95; rw [e87, e88]
  have hc : k0_chk1 (keepA.sl.v93 k) (keepA.sl.v95 k) := by rw [e93, e95]; exact chkA k
  rw [wp_assume_of _ _ _ _ hc]
  iapply (SparseCore.wp_vectorLoadIdx 𝒱₀ (V d (cV L) (jV L)) none Set.univ (s := S16x128) (e := .i32) (base := rI) (S := Finset.univ) (q := fullShare) (Finset.subset_univ _)) $$ H8; iintro H8
  rw [show k0_pay191 (F := F) (keepA.sl.v83 d L k f8) (keepA.sl.v87 k)
      (loadIdx (F := F) (e := .i32) (((rI).access (.whole S16x128)).read (Elt F) f8) ![keepA.sl.v93 k, keepA.sl.v95 k] hc) = flagsA k f8
    from by
      have key : ∀ (a b w : IVec S16 32) (ha : a = k0_pay189 (k0_pay92 laneA 0#32 1#32 k) k0_pay93) (hb : b = k0_pay190 (k0_pay92 laneA 0#32 1#32 k) k0_pay93)
          (hw : w = k0_pay92 laneA 0#32 1#32 k) (h : k0_chk1 a b),
          k0_pay191 (F := F) (keepA.sl.v83 d L k f8) w (loadIdx (F := F) (e := .i32) (((rI).access (.whole S16x128)).read (Elt F) f8) ![a, b] h) = flagsA k f8 := by
        intro a b w ha hb hw h
        subst ha hb hw
        exact flagsA_eq k f8 h
      exact key _ _ _ e93 e95 e87 hc]
  sl_exec
  sl_step
  isplitl [H8]; · iexact H8
  iexact H9

end Cert.Proof

end
-- ==== Proof.Pass2B.lean ====
/-
  Pass 2 of a task over its second half, one group of 16 timesteps: the group's class words loaded, the words one
  timestep earlier gathered, the kept flags stored.
-/
module

public import proofs.«01_k».proof.Proof.Offs
public import Idealize.ShloMosaic.Lib.SparseCore.Ops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

/-- The lane numbers 0 … 15. -/
abbrev laneB : IVec S16 32 := iota .scVector S16 32 [0] iota_S16_d0_w32_scVector

/-- The timesteps of group `k`. -/
theorem timeB : ∀ (k : Fin k0_t4_loop.trips) (l : Fin 16), k0_pay185 laneB 0#32 1#32 k (ix1 l) = BitVec.ofNat 32 (16 * (64 + k.val) + l.val) := by decide +kernel

/-- The gathered index's sublane and lane: those of the timestep before (the first timestep's own at the very start). -/
theorem subB : ∀ (k : Fin k0_t4_loop.trips) (l : Fin 16), (k0_pay194 (k0_pay185 laneB 0#32 1#32 k) k0_pay186 (ix1 l)).toNat = (16 * (64 + k.val) + l.val - 1) / 128 := by decide +kernel
theorem lanB : ∀ (k : Fin k0_t4_loop.trips) (l : Fin 16), (k0_pay195 (k0_pay185 laneB 0#32 1#32 k) k0_pay186 (ix1 l)).toNat = (16 * (64 + k.val) + l.val - 1) % 128 := by decide +kernel

theorem offLdB_eq : ∀ k : Fin k0_t4_loop.trips, k0_off65 k = ![(64 + k.val) / 8, (64 + k.val) % 8 * 16] := by decide +kernel
theorem offSt2B_eq : ∀ k : Fin k0_t4_loop.trips, k0_off66 k = ![(64 + k.val) / 8, (64 + k.val) % 8 * 16] := by decide +kernel

/-- Every gathered index is inside the index row. -/
theorem chkB (k : Fin k0_t4_loop.trips) : k0_chk2 (k0_pay194 (k0_pay185 laneB 0#32 1#32 k) k0_pay186) (k0_pay195 (k0_pay185 laneB 0#32 1#32 k) k0_pay186) := by
  intro a x
  obtain ⟨l, rfl⟩ : ∃ l, x = ix1 l := ⟨x 0, eq_ix1 x⟩
  have hk : k.val < 64 := k.isLt
  match a with
  | ⟨0, _⟩ => exact lt_of_eq_of_lt (subB k l) (show _ < 16 by have := l.isLt; omega)
  | ⟨1, _⟩ => exact lt_of_eq_of_lt (lanB k l) (show _ < 128 by omega)

/-- The kept flags of group `k`, from the index row. -/
def flagsB (k : Fin k0_t4_loop.trips) (f : (rI).view.ty.Contents (Elt F)) : S16.Idx → BitVec 32 := fun x =>
  keep ((rI).view.read (Elt F) f (atPos (16 * (64 + k.val) + (x 0).val))) ((rI).view.read (Elt F) f (atPos (16 * (64 + k.val) + (x 0).val - 1)))
    (BitVec.ofNat 32 (16 * (64 + k.val) + (x 0).val))

theorem flagsB_eq (k : Fin k0_t4_loop.trips) (f : (rI).view.ty.Contents (Elt F)) (h : ∀ a x, ((![k0_pay194 (k0_pay185 laneB 0#32 1#32 k) k0_pay186, k0_pay195 (k0_pay185 laneB 0#32 1#32 k) k0_pay186] : Fin 2 → IVec S16 32) a x).toNat < S16x128.size a) :
    k0_pay196 (F := F) (shapeCast S16 ((rI).view.readAt (Elt F) (Rect.unit (s := S16x128) (k0_off65 k) S1x16.size (k0_off65_inb k)).toLoadRect f) shapeCasts_S1x16_S16)
        (k0_pay185 laneB 0#32 1#32 k) (loadIdx (F := F) (e := .i32) (((rI).access (.whole S16x128)).read (Elt F) f) ![k0_pay194 (k0_pay185 laneB 0#32 1#32 k) k0_pay186, k0_pay195 (k0_pay185 laneB 0#32 1#32 k) k0_pay186] h)
      = flagsB k f := by
  funext x
  obtain ⟨l, rfl⟩ : ∃ l, x = ix1 l := ⟨x 0, eq_ix1 x⟩
  have hk : k.val < 64 := k.isLt
  have hl : l.val < 16 := l.isLt
  have e1 := ldRow_apply rI f (k0_off65_inb k) (offLdB_eq k) (ix1 l : S16.Idx) (atPos (16 * (64 + k.val) + l.val))
    (by show (16 * (64 + k.val) + l.val) / 128 % 16 = _; omega) (by show (16 * (64 + k.val) + l.val) % 128 % 128 = (64 + k.val) % 8 * 16 + l.val; omega)
  have e2 : loadIdx (F := F) (e := .i32) (((rI).access (.whole S16x128)).read (Elt F) f) ![k0_pay194 (k0_pay185 laneB 0#32 1#32 k) k0_pay186, k0_pay195 (k0_pay185 laneB 0#32 1#32 k) k0_pay186] h (ix1 l)
      = (rI).view.read (Elt F) f (atPos (16 * (64 + k.val) + l.val - 1)) := by
    refine congrArg ((rI).view.read (Elt F) f) (funext fun a => Fin.ext ?_)
    match a with
    | ⟨0, _⟩ =>
      show 0 + 1 * (k0_pay194 (k0_pay185 laneB 0#32 1#32 k) k0_pay186 (ix1 l)).toNat = (16 * (64 + k.val) + l.val - 1) / 128 % 16
      rw [subB]; omega
    | ⟨1, _⟩ =>
      show 0 + 1 * (k0_pay195 (k0_pay185 laneB 0#32 1#32 k) k0_pay186 (ix1 l)).toNat = (16 * (64 + k.val) + l.val - 1) % 128 % 128
      rw [lanB]; omega
  show keep (shapeCast S16 ((rI).view.readAt (Elt F) (Rect.unit (s := S16x128) (k0_off65 k) S1x16.size (k0_off65_inb k)).toLoadRect f) shapeCasts_S1x16_S16 (ix1 l))
    (loadIdx (F := F) (e := .i32) (((rI).access (.whole S16x128)).read (Elt F) f) ![k0_pay194 (k0_pay185 laneB 0#32 1#32 k) k0_pay186, k0_pay195 (k0_pay185 laneB 0#32 1#32 k) k0_pay186] h (ix1 l)) (k0_pay185 laneB 0#32 1#32 k (ix1 l)) = _
  rw [e1, e2, timeB]
  rfl

set_option maxHeartbeats 400000 in
/-- Trip `k` of pass 2 over the second half: the kept flags of group `k` are stored. -/
theorem keepB (d : Dev nD) (L : grid0.Coords) (k : Fin k0_t4_loop.trips)
    (f8 : Buf (Elt F) ((V d (cV L) (jV L)).loc cc0_scratch2)) (f9 : Buf (Elt F) ((V d (cV L) (jV L)).loc cc0_scratch3)) :
    iprop(((rI).view.loc (V d (cV L) (jV L)) ↦{fullShare} f8) ∗ ((rV).view.loc (V d (cV L) (jV L)) ↦{fullShare} f9))
      ⊢ wp frame (wpE (defs₀ (F := F)) 𝒱₀ (V d (cV L) (jV L)) none) Set.univ
          (k0_t4_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 laneB k ())
          fun _ => iprop(((rI).view.loc (V d (cV L) (jV L)) ↦{fullShare} f8)
            ∗ ((rV).view.loc (V d (cV L) (jV L)) ↦{fullShare} (rV).view.writes (Elt F) f9
                [⟨Rect.unit (s := S16x128) (k0_off66 k) S1x16.size (k0_off66_inb k),
                  shapeCast S1x16 (flagsB k f8) shapeCasts_S16_S1x16⟩]) : sProp 𝕄) := by
  iintro ⟨H8, H9⟩
  unfold k0_t4_body
  sl_exec
  have t87 : ∀ (k : Fin k0_t4_loop.trips) (l : Fin 16), keepB.sl.v87 k (ix1 l) = BitVec.ofNat 32 (16 * (64 + k.val) + l.val) := by decide +kernel
  have e87 : keepB.sl.v87 k = k0_pay185 laneB 0#32 1#32 k := by
    funext x
    obtain ⟨l, rfl⟩ : ∃ l, x = ix1 l := ⟨x 0, eq_ix1 x⟩
    rw [t87, timeB]
  have e88 : keepB.sl.v88 = k0_pay186 := rfl
  have e93 : keepB.sl.v93 k = k0_pay194 (k0_pay185 laneB 0#32 1#32 k) k0_pay186 := by unfold keepB.sl.v93; rw [e87, e88]
  have e95 : keepB.sl.v95 k = k0_pay195 (k0_pay185 laneB 0#32 1#32 k) k0_pay186 := by unfold keepB.sl.v95; rw [e87, e88]
  have hc : k0_chk2 (keepB.sl.v93 k) (keepB.sl.v95 k) := by rw [e93, e95]; exact chkB k
  rw [wp_assume_of _ _ _ _ hc]
  iapply (SparseCore.wp_vectorLoadIdx 𝒱₀ (V d (cV L) (jV L)) none Set.univ (s := S16x128) (e := .i32) (base := rI) (S := Finset.univ) (q := fullShare) (Finset.subset_univ _)) $$ H8; iintro H8
  rw [show k0_pay196 (F := F) (keepB.sl.v83 d L k f8) (keepB.sl.v87 k)
      (loadIdx (F := F) (e := .i32) (((rI).access (.whole S16x128)).read (Elt F) f8) ![keepB.sl.v93 k, keepB.sl.v95 k] hc) = flagsB k f8
    from by
      have key : ∀ (a b w : IVec S16 32) (ha : a = k0_pay194 (k0_pay185 laneB 0#32 1#32 k) k0_pay186) (hb : b = k0_pay195 (k0_pay185 laneB 0#32 1#32 k) k0_pay186)
          (hw : w = k0_pay185 laneB 0#32 1#32 k) (h : k0_chk2 a b),
          k0_pay196 (F := F) (keepB.sl.v83 d L k f8) w (loadIdx (F := F) (e := .i32) (((rI).access (.whole S16x128)).read (Elt F) f8) ![a, b] h) = flagsB k f8 := by
        intro a b w ha hb hw h
        subst ha hb hw
        exact flagsB_eq k f8 h
      exact key _ _ _ e93 e95 e87 hc]
  sl_exec
  sl_step
  isplitl [H8]; · iexact H8
  iexact H9

end Cert.Proof

end
-- ==== Proof.Loops.lean ====
/-
  The four loops of a task: what each keeps, trip by trip.
-/
module

public import proofs.«01_k».proof.Proof.Pass1A
public import proofs.«01_k».proof.Proof.Pass1B
public import proofs.«01_k».proof.Proof.Pass2A
public import proofs.«01_k».proof.Proof.Pass2B

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

variable (d : Dev nD) (L : grid0.Coords)

omit [FloatOps F] in
/-- An index is the index of its timestep. -/
theorem atPos_pos (y : S16x128.Idx) : atPos (pos y) = y := by
  have h0 : (y 0).val < 16 := (y 0).isLt
  have h1 : (y 1).val < 128 := (y 1).isLt
  funext a
  match a with
  | ⟨0, _⟩ => exact Fin.ext (show ((y 0).val * 128 + (y 1).val) / 128 % 16 = (y 0).val by omega)
  | ⟨1, _⟩ => exact Fin.ext (show ((y 0).val * 128 + (y 1).val) % 128 % 128 = (y 1).val by omega)

/-! ## The first half's two loops -/

/-- The first half of a row, as it stands in its buffer. -/
def HalfA (X : RowLp F) (f : (V d (cV L) (jV L)).loc cc0_scratch0 |> Buf (Elt F)) : Prop :=
  ∀ (v : Fin 29) (r : Fin 8) (l : Fin 128), (b0).view.read (Elt F) f (ix3 v r l) = X v (Fin.castLE (by decide) r) l

omit [FloatOps F] in
theorem lanesA_eq {X : RowLp F} {f : Buf (Elt F) ((V d (cV L) (jV L)).loc cc0_scratch0)} (hf : HalfA d L X f) (k : Fin k0_t1_loop.trips)
    (x : S16.Idx) (y : S16x128.Idx) (hy : pos y = 16 * k.val + (x 0).val) (v : ℕ) (hv : v < 29) :
    lanesA k f v x = classes X (y 0) (y 1) v := by
  have hk : k.val < 64 := k.isLt
  have hx : (x 0).val < 16 := (x 0).isLt
  have h0 : (y 0).val < 16 := (y 0).isLt
  have h1 : (y 1).val < 128 := (y 1).isLt
  have hp : pos y = (y 0).val * 128 + (y 1).val := rfl
  unfold lanesA
  rw [ldAt_apply b0 f _ (offsA_eq k _) x (ix3 (Fin.ofNat 29 v) (⟨k.val / 8, by omega⟩ : Fin 8) (y 1)) rfl rfl (by show (y 1).val = k.val % 8 * 16 + (x 0).val; omega)]
  refine (hf _ _ _).trans ?_
  show X _ _ _ = X _ _ _
  congr 1
  refine Fin.ext ?_
  show k.val / 8 = (y 0).val
  omega

/-- The state before trip `n` of pass 1: the index row and the probability row right on the groups before. -/
def inv1A (X : RowLp F) (f6 : Buf (Elt F) ((V d (cV L) (jV L)).loc cc0_scratch0)) (n : ℕ) : sProp 𝕄 :=
  iprop(((b0).view.loc (V d (cV L) (jV L)) ↦{fullShare} f6)
    ∗ (∃ f8, ⌜Done rI f8 (n) (idxAtRow X)⌝ ∗ ((rI).view.loc (V d (cV L) (jV L)) ↦{fullShare} f8))
    ∗ ∃ f10, ⌜Done rM f10 (n) (mpAtRow X)⌝ ∗ ((rM).view.loc (V d (cV L) (jV L)) ↦{fullShare} f10))

/-- A trip of pass 1 keeps the state. -/
theorem step1A {X : RowLp F} {f6 : Buf (Elt F) ((V d (cV L) (jV L)).loc cc0_scratch0)} (hf : HalfA d L X f6) (k : Fin k0_t1_loop.trips) (v2 : IVec S16 32) :
    inv1A d L X f6 k.val
      ⊢ wp frame (wpE (defs₀ (F := F)) 𝒱₀ (V d (cV L) (jV L)) none) Set.univ
          (k0_t1_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 v2 k ())
          fun _ => inv1A d L X f6 (k.val + 1) := by
  unfold inv1A
  iintro ⟨H6, ⟨%f8, %h8, H8⟩, %f10, %h10, H10⟩
  iapply (wp_wand _ (wpE (defs₀ (F := F)) 𝒱₀ (V d (cV L) (jV L)) none) Set.univ) $$ [H6 H8 H10]
  · iapply (tripA d L k v2 f6 f8 f10)
    isplitl [H6]; · iexact H6
    isplitl [H8]; · iexact H8
    iexact H10
  iintro %_ ⟨H6, H8, H10⟩
  isplitl [H6]; · iexact H6
  isplitl [H8]
  · iexists _; isplitr
    · ipureintro
      exact stored_group rI f8 (k0_off32_inb k) _ k.val (offStA_eq k) _ h8 fun x y hy => by
        show (tree fun v => lanesA k f6 v x).2 = _
        rw [tree_congr fun v hv => lanesA_eq d L hf k x y hy v hv]; rfl
    · iexact H8
  · iexists _; isplitr
    · ipureintro
      exact stored_group rM f10 (k0_off32_inb k) _ k.val (offStA_eq k) _ h10 fun x y hy => by
        show FloatOps.exp (tree fun v => lanesA k f6 v x).1 = _
        rw [tree_congr fun v hv => lanesA_eq d L hf k x y hy v hv]; rfl
    · iexact H10

/-- The state before trip `n` of pass 2: the flags row right on the groups before. -/
def inv2A (X : RowLp F) (f8 : Buf (Elt F) ((V d (cV L) (jV L)).loc cc0_scratch2)) (n : ℕ) : sProp 𝕄 :=
  iprop(((rI).view.loc (V d (cV L) (jV L)) ↦{fullShare} f8)
    ∗ ∃ f9, ⌜Done rV f9 (n) (valAtRow X)⌝ ∗ ((rV).view.loc (V d (cV L) (jV L)) ↦{fullShare} f9))

/-- A trip of pass 2 keeps the state. -/
theorem step2A {X : RowLp F} {f8 : Buf (Elt F) ((V d (cV L) (jV L)).loc cc0_scratch2)} (h8 : Done rI f8 (64) (idxAtRow X)) (k : Fin k0_t2_loop.trips) :
    inv2A d L X f8 k.val
      ⊢ wp frame (wpE (defs₀ (F := F)) 𝒱₀ (V d (cV L) (jV L)) none) Set.univ
          (k0_t2_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 laneA k ())
          fun _ => inv2A d L X f8 (k.val + 1) := by
  unfold inv2A
  iintro ⟨H8, %f9, %h9, H9⟩
  iapply (wp_wand _ (wpE (defs₀ (F := F)) 𝒱₀ (V d (cV L) (jV L)) none) Set.univ) $$ [H8 H9]
  · iapply (keepA d L k f8 f9)
    isplitl [H8]; · iexact H8
    iexact H9
  iintro %_ ⟨H8, H9⟩
  isplitl [H8]; · iexact H8
  iexists _; isplitr
  · ipureintro
    have hk : k.val < 64 := k.isLt
    exact stored_group rV f9 (k0_off34_inb k) _ k.val (offSt2A_eq k) _ h9 fun x y hy => by
      have hx : (x 0).val < 16 := (x 0).isLt
      show flagsA k f8 x = _
      unfold flagsA valAtRow
      rw [h8 (atPos (16 * k.val + (x 0).val)) (by rw [pos_atPos (by omega)]; omega), h8 (atPos (16 * k.val + (x 0).val - 1)) (by rw [pos_atPos (by omega)]; omega), ← hy,
        atPos_pos]
  · iexact H9

/-! ## The second half's two loops -/

/-- The second half of a row, as it stands in its buffer. -/
def HalfB (X : RowLp F) (f : (V d (cV L) (jV L)).loc cc0_scratch1 |> Buf (Elt F)) : Prop :=
  ∀ (v : Fin 29) (r : Fin 8) (l : Fin 128), (b1).view.read (Elt F) f (ix3 v r l) = X v (Fin.natAdd 8 r) l

omit [FloatOps F] in
theorem lanesB_eq {X : RowLp F} {f : Buf (Elt F) ((V d (cV L) (jV L)).loc cc0_scratch1)} (hf : HalfB d L X f) (k : Fin k0_t3_loop.trips)
    (x : S16.Idx) (y : S16x128.Idx) (hy : pos y = 16 * (64 + k.val) + (x 0).val) (v : ℕ) (hv : v < 29) :
    lanesB k f v x = classes X (y 0) (y 1) v := by
  have hk : k.val < 64 := k.isLt
  have hx : (x 0).val < 16 := (x 0).isLt
  have h0 : (y 0).val < 16 := (y 0).isLt
  have h1 : (y 1).val < 128 := (y 1).isLt
  have hp : pos y = (y 0).val * 128 + (y 1).val := rfl
  unfold lanesB
  rw [ldAt_apply b1 f _ (offsB_eq k _) x (ix3 (Fin.ofNat 29 v) (⟨k.val / 8, by omega⟩ : Fin 8) (y 1)) rfl rfl (by show (y 1).val = k.val % 8 * 16 + (x 0).val; omega)]
  refine (hf _ _ _).trans ?_
  show X _ _ _ = X _ _ _
  congr 1
  refine Fin.ext ?_
  show 8 + k.val / 8 = (y 0).val
  omega

/-- The state before trip `n` of pass 1: the index row and the probability row right on the groups before. -/
def inv1B (X : RowLp F) (f6 : Buf (Elt F) ((V d (cV L) (jV L)).loc cc0_scratch1)) (n : ℕ) : sProp 𝕄 :=
  iprop(((b1).view.loc (V d (cV L) (jV L)) ↦{fullShare} f6)
    ∗ (∃ f8, ⌜Done rI f8 (64 + n) (idxAtRow X)⌝ ∗ ((rI).view.loc (V d (cV L) (jV L)) ↦{fullShare} f8))
    ∗ ∃ f10, ⌜Done rM f10 (64 + n) (mpAtRow X)⌝ ∗ ((rM).view.loc (V d (cV L) (jV L)) ↦{fullShare} f10))

/-- A trip of pass 1 keeps the state. -/
theorem step1B {X : RowLp F} {f6 : Buf (Elt F) ((V d (cV L) (jV L)).loc cc0_scratch1)} (hf : HalfB d L X f6) (k : Fin k0_t3_loop.trips) (v2 : IVec S16 32) :
    inv1B d L X f6 k.val
      ⊢ wp frame (wpE (defs₀ (F := F)) 𝒱₀ (V d (cV L) (jV L)) none) Set.univ
          (k0_t3_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 v2 k ())
          fun _ => inv1B d L X f6 (k.val + 1) := by
  unfold inv1B
  iintro ⟨H6, ⟨%f8, %h8, H8⟩, %f10, %h10, H10⟩
  iapply (wp_wand _ (wpE (defs₀ (F := F)) 𝒱₀ (V d (cV L) (jV L)) none) Set.univ) $$ [H6 H8 H10]
  · iapply (tripB d L k v2 f6 f8 f10)
    isplitl [H6]; · iexact H6
    isplitl [H8]; · iexact H8
    iexact H10
  iintro %_ ⟨H6, H8, H10⟩
  isplitl [H6]; · iexact H6
  isplitl [H8]
  · iexists _; isplitr
    · ipureintro
      exact stored_group rI f8 (k0_off64_inb k) _ (64 + k.val) (offStB_eq k) _ h8 fun x y hy => by
        show (tree fun v => lanesB k f6 v x).2 = _
        rw [tree_congr fun v hv => lanesB_eq d L hf k x y hy v hv]; rfl
    · iexact H8
  · iexists _; isplitr
    · ipureintro
      exact stored_group rM f10 (k0_off64_inb k) _ (64 + k.val) (offStB_eq k) _ h10 fun x y hy => by
        show FloatOps.exp (tree fun v => lanesB k f6 v x).1 = _
        rw [tree_congr fun v hv => lanesB_eq d L hf k x y hy v hv]; rfl
    · iexact H10

/-- The state before trip `n` of pass 2: the flags row right on the groups before. -/
def inv2B (X : RowLp F) (f8 : Buf (Elt F) ((V d (cV L) (jV L)).loc cc0_scratch2)) (n : ℕ) : sProp 𝕄 :=
  iprop(((rI).view.loc (V d (cV L) (jV L)) ↦{fullShare} f8)
    ∗ ∃ f9, ⌜Done rV f9 (64 + n) (valAtRow X)⌝ ∗ ((rV).view.loc (V d (cV L) (jV L)) ↦{fullShare} f9))

/-- A trip of pass 2 keeps the state. -/
theorem step2B {X : RowLp F} {f8 : Buf (Elt F) ((V d (cV L) (jV L)).loc cc0_scratch2)} (h8 : Done rI f8 (64 + 64) (idxAtRow X)) (k : Fin k0_t4_loop.trips) :
    inv2B d L X f8 k.val
      ⊢ wp frame (wpE (defs₀ (F := F)) 𝒱₀ (V d (cV L) (jV L)) none) Set.univ
          (k0_t4_body L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2 laneB k ())
          fun _ => inv2B d L X f8 (k.val + 1) := by
  unfold inv2B
  iintro ⟨H8, %f9, %h9, H9⟩
  iapply (wp_wand _ (wpE (defs₀ (F := F)) 𝒱₀ (V d (cV L) (jV L)) none) Set.univ) $$ [H8 H9]
  · iapply (keepB d L k f8 f9)
    isplitl [H8]; · iexact H8
    iexact H9
  iintro %_ ⟨H8, H9⟩
  isplitl [H8]; · iexact H8
  iexists _; isplitr
  · ipureintro
    have hk : k.val < 64 := k.isLt
    exact stored_group rV f9 (k0_off66_inb k) _ (64 + k.val) (offSt2B_eq k) _ h9 fun x y hy => by
      have hx : (x 0).val < 16 := (x 0).isLt
      show flagsB k f8 x = _
      unfold flagsB valAtRow
      rw [h8 (atPos (16 * (64 + k.val) + (x 0).val)) (by rw [pos_atPos (by omega)]; omega), h8 (atPos (16 * (64 + k.val) + (x 0).val - 1)) (by rw [pos_atPos (by omega)]; omega), ← hy,
        atPos_pos]
  · iexact H9

end Cert.Proof

end
-- ==== Proof.Views.lean ====
/-
  The pieces of the arrays that a task copies: where each lies, and what the copies leave there.
-/
module

public import proofs.«01_k».proof.Proof.Loops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

/-! ## Where a task's pieces lie -/

/-- The number of the task of a (core, tile). -/
def wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

/-- The task as an index. -/
def widF (L : grid0.Coords) : Fin 32 := ⟨wid L, wid_lt L⟩

theorem offHalfA_eq (L : grid0.Coords) : k0_off1 L = ![0, wid L / 8, 0, wid L % 8, 0] := by
  revert L; unfold wid; decide +kernel
theorem offHalfB_eq (L : grid0.Coords) : k0_off2 L = ![0, wid L / 8, 8, wid L % 8, 0] := by
  revert L; unfold wid; decide +kernel
theorem offOut_eq (L : grid0.Coords) : k0_off67 L = ![wid L / 8, 0, wid L % 8, 0] := by
  revert L; unfold wid; decide +kernel

/-- The two halves of the task's row of the transposed scores, and its row of each result, as the task addresses them. -/
abbrev srcA (L : grid0.Coords) : Memref sig .scVector .hbm S29x8x128 .f32 :=
  ((xA).slice (Rect.unit (s := S29x16x16x8x128) (k0_off1 L) S29x1x8x1x128.size (k0_off1_inb L)) (fun _ => rfl)).squeeze S29x8x128 squeezes_S29x1x8x1x128_S29x8x128
abbrev srcB (L : grid0.Coords) : Memref sig .scVector .hbm S29x8x128 .f32 :=
  ((xA).slice (Rect.unit (s := S29x16x16x8x128) (k0_off2 L) S29x1x8x1x128.size (k0_off2_inb L)) (fun _ => rfl)).squeeze S29x8x128 squeezes_S29x1x8x1x128_S29x8x128
abbrev dstI (L : grid0.Coords) : Memref sig .scVector .hbm S16x128 .i32 :=
  ((oI).slice (Rect.unit (s := S4x16x8x128) (k0_off67 L) S1x16x1x128.size (k0_off67_inb L)) (fun _ => rfl)).squeeze S16x128 squeezes_S1x16x1x128_S16x128
abbrev dstV (L : grid0.Coords) : Memref sig .scVector .hbm S16x128 .i32 :=
  ((oV).slice (Rect.unit (s := S4x16x8x128) (k0_off67 L) S1x16x1x128.size (k0_off67_inb L)) (fun _ => rfl)).squeeze S16x128 squeezes_S1x16x1x128_S16x128
abbrev dstM (L : grid0.Coords) : Memref sig .scVector .hbm S16x128 .f32 :=
  ((oM).slice (Rect.unit (s := S4x16x8x128) (k0_off67 L) S1x16x1x128.size (k0_off67_inb L)) (fun _ => rfl)).squeeze S16x128 squeezes_S1x16x1x128_S16x128

/-- The index of the scores' array that a place of a half lies at. -/
def srcIx (L : grid0.Coords) (v : Fin 29) (r : Fin 16) (l : Fin 128) : S29x16x16x8x128.Idx :=
  ix5 v (⟨wid L / 8, by have := wid_lt L; omega⟩ : Fin 16) r (⟨wid L % 8, by omega⟩ : Fin 8) l
/-- The index of a result's array that a place of the row lies at. -/
def dstIx (L : grid0.Coords) (y : S16x128.Idx) : S4x16x8x128.Idx :=
  ix4 (⟨wid L / 8, by have := wid_lt L; omega⟩ : Fin 4) (y 0) (⟨wid L % 8, by omega⟩ : Fin 8) (y 1)

theorem emb_src (L : grid0.Coords) (off : Fin 5 → ℕ) (inb : ∀ a, off a + S29x1x8x1x128.size a ≤ S29x16x16x8x128.size a) (c : ℕ) (hc : c + 8 ≤ 16)
    (hoff : off = ![0, wid L / 8, c, wid L % 8, 0]) (v : Fin 29) (r : Fin 8) (l : Fin 128) :
    (((xA).slice (Rect.unit (s := S29x16x16x8x128) off S29x1x8x1x128.size inb) (fun _ => rfl)).squeeze S29x8x128 squeezes_S29x1x8x1x128_S29x8x128).view.emb (ix3 v r l)
      = srcIx L v ⟨c + r.val, by omega⟩ l := by
  subst hoff
  show (Rect.unit (s := S29x16x16x8x128) _ S29x1x8x1x128.size inb).emb (Shape.reshapeEquiv squeezes_S29x1x8x1x128_S29x8x128.numel_eq (ix3 v r l)) = _
  rw [Shape.reshapeEquiv_eq_of_rowMajor (s := S29x1x8x1x128) (s' := S29x8x128) _ (x := ix3 v r l) (y := ix5 v (0 : Fin 1) r (0 : Fin 1) l) (by
    rw [Shape.rowMajor_val_five, Shape.rowMajor_val_three]
    show (((v.val * 1 + 0) * 8 + r.val) * 1 + 0) * 128 + l.val = (v.val * 8 + r.val) * 128 + l.val
    omega)]
  funext a
  refine Fin.ext ?_
  match a with
  | ⟨0, _⟩ => show 0 + 1 * v.val = v.val; omega
  | ⟨1, _⟩ => show wid L / 8 + 0 * 1 = wid L / 8; omega
  | ⟨2, _⟩ => show c + 1 * r.val = c + r.val; omega
  | ⟨3, _⟩ => show wid L % 8 + 0 * 1 = wid L % 8; omega
  | ⟨4, _⟩ => show 0 + 1 * l.val = l.val; omega

theorem emb_dst (L : grid0.Coords) (y : S16x128.Idx) :
    (Rect.unit (s := S4x16x8x128) (k0_off67 L) S1x16x1x128.size (k0_off67_inb L)).emb (Shape.reshapeEquiv squeezes_S1x16x1x128_S16x128.numel_eq y) = dstIx L y := by
  rw [Shape.reshapeEquiv_eq_of_rowMajor (s := S1x16x1x128) (s' := S16x128) _ (x := y) (y := ix4 (0 : Fin 1) (y 0) (0 : Fin 1) (y 1)) (by
    rw [Shape.rowMajor_val_four, Shape.rowMajor_val_two]
    show ((0 * 16 + (y 0).val) * 1 + 0) * 128 + (y 1).val = (y 0).val * 128 + (y 1).val
    omega)]
  have h := offOut_eq L
  funext a
  refine Fin.ext ?_
  match a with
  | ⟨0, _⟩ => show k0_off67 L 0 + 0 * 1 = wid L / 8; rw [h]; show wid L / 8 + 0 * 1 = _; omega
  | ⟨1, _⟩ => show k0_off67 L 1 + 1 * (y 0).val = (y 0).val; rw [h]; show 0 + 1 * (y 0).val = _; omega
  | ⟨2, _⟩ => show k0_off67 L 2 + 0 * 1 = wid L % 8; rw [h]; show wid L % 8 + 0 * 1 = _; omega
  | ⟨3, _⟩ => show k0_off67 L 3 + 1 * (y 1).val = (y 1).val; rw [h]; show 0 + 1 * (y 1).val = _; omega

/-! ## The values -/

/-- A row of scores, out of the array the tasks read. -/
def rowOf (A : S29x16x16x8x128.Idx → F .f32) (bt : Fin 16) (bs : Fin 8) : RowLp F := fun v r l => A (ix5 v bt r bs l)

/-- What the tasks leave in the three result arrays. -/
def gI (A : S29x16x16x8x128.Idx → F .f32) : S4x16x8x128.Idx → BitVec 32 := fun j => idxAtRow (rowOf A (Fin.castLE (by decide) (j 0)) (j 2)) (ix2 (j 1) (j 3))
def gV (A : S29x16x16x8x128.Idx → F .f32) : S4x16x8x128.Idx → BitVec 32 := fun j => valAtRow (rowOf A (Fin.castLE (by decide) (j 0)) (j 2)) (ix2 (j 1) (j 3))
def gM (A : S29x16x16x8x128.Idx → F .f32) : S4x16x8x128.Idx → F .f32 := fun j => mpAtRow (rowOf A (Fin.castLE (by decide) (j 0)) (j 2)) (ix2 (j 1) (j 3))

/-- The row of a task. -/
def rowL (A : S29x16x16x8x128.Idx → F .f32) (L : grid0.Coords) : RowLp F := fun v r l => A (srcIx L v r l)

theorem gI_dst (A : S29x16x16x8x128.Idx → F .f32) (L : grid0.Coords) (y : S16x128.Idx) : gI A (dstIx L y) = idxAtRow (rowL A L) y := by
  rw [show y = ix2 (y 0) (y 1) from eq_ix2 y]; rfl
theorem gV_dst (A : S29x16x16x8x128.Idx → F .f32) (L : grid0.Coords) (y : S16x128.Idx) : gV A (dstIx L y) = valAtRow (rowL A L) y := by
  rw [show y = ix2 (y 0) (y 1) from eq_ix2 y]; rfl
theorem gM_dst (A : S29x16x16x8x128.Idx → F .f32) (L : grid0.Coords) (y : S16x128.Idx) : gM A (dstIx L y) = mpAtRow (rowL A L) y := by
  rw [show y = ix2 (y 0) (y 1) from eq_ix2 y]; rfl

omit [FloatOps F] in
theorem halfA_src (d : Dev nD) (L : grid0.Coords) (A : S29x16x16x8x128.Idx → F .f32) (f : Buf (Elt F) ((V d (cV L) (jV L)).loc cc0_scratch0))
    (hf : (b0).view.read (Elt F) f = (srcA L).view.read (Elt F) A) : HalfA d L (rowL A L) f := by
  intro v r l
  rw [hf]
  show A ((srcA L).view.emb (ix3 v r l)) = A _
  rw [emb_src L _ (k0_off1_inb L) 0 (by decide) (offHalfA_eq L) v r l]
  congr 2
  exact Fin.ext (Nat.zero_add _)

omit [FloatOps F] in
theorem halfB_src (d : Dev nD) (L : grid0.Coords) (A : S29x16x16x8x128.Idx → F .f32) (f : Buf (Elt F) ((V d (cV L) (jV L)).loc cc0_scratch1))
    (hf : (b1).view.read (Elt F) f = (srcB L).view.read (Elt F) A) : HalfB d L (rowL A L) f := by
  intro v r l
  rw [hf]
  show A ((srcB L).view.emb (ix3 v r l)) = A _
  rw [emb_src L _ (k0_off2_inb L) 8 (by decide) (offHalfB_eq L) v r l]
  rfl

/-! ## The sets of the result arrays' rows -/

/-- The places of a result array that a task writes. -/
def rowSet (L : grid0.Coords) : Finset S4x16x8x128.Idx := (dstI L).view.set

theorem set_dstV (L : grid0.Coords) : (dstV L).view.set = rowSet L := by
  unfold rowSet
  show (((oV).view.slice (Rect.unit (s := S4x16x8x128) (k0_off67 L) S1x16x1x128.size (k0_off67_inb L))).reshape S16x128 squeezes_S1x16x1x128_S16x128.numel_eq).set
    = (((oI).view.slice (Rect.unit (s := S4x16x8x128) (k0_off67 L) S1x16x1x128.size (k0_off67_inb L))).reshape S16x128 squeezes_S1x16x1x128_S16x128.numel_eq).set
  rfl
theorem set_dstM (L : grid0.Coords) : (dstM L).view.set = rowSet L := by
  unfold rowSet
  rfl

/-- A place lies in a task's row exactly when its row is the task's. -/
theorem mem_rowSet (L : grid0.Coords) (j : S4x16x8x128.Idx) : j ∈ rowSet L ↔ (j 0).val = wid L / 8 ∧ (j 2).val = wid L % 8 := by
  unfold rowSet View.set
  rw [Finset.mem_map]
  constructor
  · rintro ⟨y, -, hy⟩
    rw [← hy, show (dstI L).view.emb y = dstIx L y from emb_dst L y]
    exact ⟨rfl, rfl⟩
  · rintro ⟨h0, h2⟩
    refine ⟨ix2 (j 1) (j 3), Finset.mem_univ _, ?_⟩
    rw [show (dstI L).view.emb (ix2 (j 1) (j 3)) = dstIx L (ix2 (j 1) (j 3)) from emb_dst L _]
    funext a
    match a with
    | ⟨0, _⟩ => exact Fin.ext h0.symm
    | ⟨1, _⟩ => rfl
    | ⟨2, _⟩ => exact Fin.ext h2.symm
    | ⟨3, _⟩ => rfl

omit [FloatOps F] in
/-- What a copy of a finished row leaves: on the task's places the array is the wanted one. -/
theorem wroteI (L : grid0.Coords) (f g : S4x16x8x128.Idx → BitVec 32) (w : S16x128.Idx → BitVec 32) (hw : ∀ y, w y = g (dstIx L y)) :
    ∀ j ∈ (dstI L).view.set, (dstI L).view.writes (Elt F) f [⟨Rect.whole S16x128, w⟩] j = g j := by
  intro j hj
  unfold View.set at hj
  obtain ⟨y, -, rfl⟩ := Finset.mem_map.mp hj
  have e : (dstI L).view.emb y = ((dstI L).view.slice (Rect.whole S16x128)).emb y := by
    show _ = (dstI L).view.emb ((Rect.whole S16x128).emb y)
    rw [show (Rect.whole S16x128).emb y = y from funext fun a => Fin.ext (by show 0 + 1 * (y a).val = (y a).val; omega)]
  rw [View.writes_singleton]
  refine (congrArg _ e).trans ((((dstI L).view.slice (Rect.whole S16x128)).write_emb_of_mem (Val := Elt F) f w (Finset.mem_univ y)).trans ?_)
  rw [show (dstI L).view.emb y = dstIx L y from emb_dst L y]
  exact hw y
omit [FloatOps F] in
/-- What a copy of a finished row leaves: on the task's places the array is the wanted one. -/
theorem wroteV (L : grid0.Coords) (f g : S4x16x8x128.Idx → BitVec 32) (w : S16x128.Idx → BitVec 32) (hw : ∀ y, w y = g (dstIx L y)) :
    ∀ j ∈ (dstV L).view.set, (dstV L).view.writes (Elt F) f [⟨Rect.whole S16x128, w⟩] j = g j := by
  intro j hj
  unfold View.set at hj
  obtain ⟨y, -, rfl⟩ := Finset.mem_map.mp hj
  have e : (dstV L).view.emb y = ((dstV L).view.slice (Rect.whole S16x128)).emb y := by
    show _ = (dstV L).view.emb ((Rect.whole S16x128).emb y)
    rw [show (Rect.whole S16x128).emb y = y from funext fun a => Fin.ext (by show 0 + 1 * (y a).val = (y a).val; omega)]
  rw [View.writes_singleton]
  refine (congrArg _ e).trans ((((dstV L).view.slice (Rect.whole S16x128)).write_emb_of_mem (Val := Elt F) f w (Finset.mem_univ y)).trans ?_)
  rw [show (dstV L).view.emb y = dstIx L y from emb_dst L y]
  exact hw y
omit [FloatOps F] in
/-- What a copy of a finished row leaves: on the task's places the array is the wanted one. -/
theorem wroteM (L : grid0.Coords) (f g : S4x16x8x128.Idx → F .f32) (w : S16x128.Idx → F .f32) (hw : ∀ y, w y = g (dstIx L y)) :
    ∀ j ∈ (dstM L).view.set, (dstM L).view.writes (Elt F) f [⟨Rect.whole S16x128, w⟩] j = g j := by
  intro j hj
  unfold View.set at hj
  obtain ⟨y, -, rfl⟩ := Finset.mem_map.mp hj
  have e : (dstM L).view.emb y = ((dstM L).view.slice (Rect.whole S16x128)).emb y := by
    show _ = (dstM L).view.emb ((Rect.whole S16x128).emb y)
    rw [show (Rect.whole S16x128).emb y = y from funext fun a => Fin.ext (by show 0 + 1 * (y a).val = (y a).val; omega)]
  rw [View.writes_singleton]
  refine (congrArg _ e).trans ((((dstM L).view.slice (Rect.whole S16x128)).write_emb_of_mem (Val := Elt F) f w (Finset.mem_univ y)).trans ?_)
  rw [show (dstM L).view.emb y = dstIx L y from emb_dst L y]
  exact hw y

end Cert.Proof

end
-- ==== Proof.Tile.lean ====
/-
  One task: a row of scores in, the row's three results out.
-/
module

public import proofs.«01_k».proof.Proof.Views

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline

variable {F : FTy → Type} [FloatOps F]
local notation "𝕄" => MT nD τ sig (HIx 1) (Elt F) ℕ UU ℕ
local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

variable (d : Dev nD) (L : grid0.Coords)

/-- A DMA cell of the tile. -/
abbrev cell (s : DmaSem sig) : GSem nD τ sig := (V d (cV L) (jV L), .dma s)

omit [FloatOps F] in
/-- What the first copy in leaves is the first half of the row. -/
theorem gotA (A : S29x16x16x8x128.Idx → F .f32) (f0 : Buf (Elt F) ((V d (cV L) (jV L)).loc cc0_scratch0)) (w : S29x8x128.Idx → F .f32)
    (hw : w = (srcA L).view.read (Elt F) A) :
    ((b0).view.loc (V d (cV L) (jV L)) ↦{fullShare} (b0).view.write (Elt F) f0 w Finset.univ : sProp 𝕄)
      ⊢ iprop(∃ f : Buf (Elt F) ((V d (cV L) (jV L)).loc cc0_scratch0), ⌜HalfA d L (rowL A L) f⌝ ∗ ((b0).view.loc (V d (cV L) (jV L)) ↦{fullShare} f)) := by
  iintro H
  iexists _; isplitr
  swap; · iexact H
  ipureintro
  exact halfA_src d L A _ (((b0).view.read_write_univ f0 w).trans hw)

omit [FloatOps F] in
/-- What the second copy in leaves is the second half of the row. -/
theorem gotB (A : S29x16x16x8x128.Idx → F .f32) (f0 : Buf (Elt F) ((V d (cV L) (jV L)).loc cc0_scratch1)) (w : S29x8x128.Idx → F .f32)
    (hw : w = (srcB L).view.read (Elt F) A) :
    ((b1).view.loc (V d (cV L) (jV L)) ↦{fullShare} (b1).view.write (Elt F) f0 w Finset.univ : sProp 𝕄)
      ⊢ iprop(∃ f : Buf (Elt F) ((V d (cV L) (jV L)).loc cc0_scratch1), ⌜HalfB d L (rowL A L) f⌝ ∗ ((b1).view.loc (V d (cV L) (jV L)) ↦{fullShare} f)) := by
  iintro H
  iexists _; isplitr
  swap; · iexact H
  ipureintro
  exact halfB_src d L A _ (((b1).view.read_write_univ f0 w).trans hw)

set_option maxHeartbeats 400000 in
/-- The task run: from a share of the scores and its places of the three results to the results there. -/
theorem tile_run (O : CellTallies nD τ sig (HIx 1)) (W : Waits sig (HIx 1)) (q : PosShare TreeShare) (A : Buf (Elt F) ((xA).view.loc (V d (cV L) (jV L))))
    (fI : Buf (Elt F) ((oI).view.loc (V d (cV L) (jV L)))) (fV : Buf (Elt F) ((oV).view.loc (V d (cV L) (jV L)))) (fM : Buf (Elt F) ((oM).view.loc (V d (cV L) (jV L))))
    (f0 : Buf (Elt F) ((V d (cV L) (jV L)).loc cc0_scratch0)) (f1 : Buf (Elt F) ((V d (cV L) (jV L)).loc cc0_scratch1)) (f2 : Buf (Elt F) ((V d (cV L) (jV L)).loc cc0_scratch2))
    (f3 : Buf (Elt F) ((V d (cV L) (jV L)).loc cc0_scratch3)) (f4 : Buf (Elt F) ((V d (cV L) (jV L)).loc cc0_scratch4)) :
    iprop((Transfers.MayWaits (V d (cV L) (jV L)) (default : HIx 1) O : sProp 𝕄) ∗ ((xA).view.loc (V d (cV L) (jV L)) ↦{q} A)
        ∗ ((dstI L).view.loc (V d (cV L) (jV L)) ↦[(dstI L).view.set]{fullShare} fI)
        ∗ ((dstV L).view.loc (V d (cV L) (jV L)) ↦[(dstV L).view.set]{fullShare} fV)
        ∗ ((dstM L).view.loc (V d (cV L) (jV L)) ↦[(dstM L).view.set]{fullShare} fM)
        ∗ ((b0).view.loc (V d (cV L) (jV L)) ↦{fullShare} f0) ∗ ((b1).view.loc (V d (cV L) (jV L)) ↦{fullShare} f1)
        ∗ ((rI).view.loc (V d (cV L) (jV L)) ↦{fullShare} f2) ∗ ((rV).view.loc (V d (cV L) (jV L)) ↦{fullShare} f3)
        ∗ ((rM).view.loc (V d (cV L) (jV L)) ↦{fullShare} f4)
        ∗ semVal (cell d L cc0_scratch5.sem) 0 ∗ semVal (cell d L cc0_scratch6.sem) 0 ∗ semVal (cell d L cc0_scoped0.sem) 0
        ∗ semVal (cell d L cc0_scoped1.sem) 0 ∗ semVal (cell d L cc0_scoped2.sem) 0
        ∗ owes (V d (cV L) (jV L)) O W)
      ⊢ wp frame (wpE (defs₀ (F := F)) 𝒱₀ (V d (cV L) (jV L)) none) Set.univ
          (cc0_k L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2)
          fun _ => iprop(((xA).view.loc (V d (cV L) (jV L)) ↦{q} A)
            ∗ ((dstI L).view.loc (V d (cV L) (jV L)) ↦[(dstI L).view.set]{fullShare} gI A)
            ∗ ((dstV L).view.loc (V d (cV L) (jV L)) ↦[(dstV L).view.set]{fullShare} gV A)
            ∗ ((dstM L).view.loc (V d (cV L) (jV L)) ↦[(dstM L).view.set]{fullShare} gM A)
            ∗ (∃ f, ((b0).view.loc (V d (cV L) (jV L)) ↦{fullShare} f)) ∗ (∃ f, ((b1).view.loc (V d (cV L) (jV L)) ↦{fullShare} f))
            ∗ (∃ f, ((rI).view.loc (V d (cV L) (jV L)) ↦{fullShare} f)) ∗ (∃ f, ((rV).view.loc (V d (cV L) (jV L)) ↦{fullShare} f))
            ∗ (∃ f, ((rM).view.loc (V d (cV L) (jV L)) ↦{fullShare} f))
            ∗ semVal (cell d L cc0_scratch5.sem) 0 ∗ semVal (cell d L cc0_scratch6.sem) 0 ∗ semVal (cell d L cc0_scoped0.sem) 0
            ∗ semVal (cell d L cc0_scoped1.sem) 0 ∗ semVal (cell d L cc0_scoped2.sem) 0
            ∗ ∃ W', owes (V d (cV L) (jV L)) O W') := by
  iintro ⟨Hmw, Hx, HI, HV, HM, H0, H1, H2, H3, H4, Hs5, Hs6, Ht0, Ht1, Ht2, HO⟩
  sl_unfold [cc0_k]
  sl_exec (disch := exact View.amount_pos _ _ (show 0 < S29x8x128.numel by decide))
  ihave H0' := (gotA d L A f0 (tile_run.sl.dma0 d L A) rfl) $$ H0
  icases H0' with ⟨%g0, %hg0, H0⟩
  sl_for (fun n (_ : PUnit) => inv1A d L (rowL A L) g0 n) $$ [H0 H2 H4]
  case region => intro k _; exact step1A d L hg0 k _
  · unfold inv1A
    isplitl [H0]; · iexact H0
    isplitl [H2]
    · iexists _; isplitr
      swap; · iexact H2
      ipureintro; intro y hy; exact absurd hy (by show ¬ _ < 16 * 0; omega)
    · iexists _; isplitr
      swap; · iexact H4
      ipureintro; intro y hy; exact absurd hy (by show ¬ _ < 16 * 0; omega)
  iintro %_ HI1
  unfold inv1A
  icases HI1 with ⟨H0, ⟨%i0, %hi0, H2⟩, %m0, %hm0, H4⟩
  replace hi0 : Done rI i0 64 (idxAtRow (rowL A L)) := hi0
  replace hm0 : Done rM m0 64 (mpAtRow (rowL A L)) := hm0
  sl_exec
  sl_for (fun n (_ : PUnit) => inv2A d L (rowL A L) i0 n) $$ [H2 H3]
  case region => intro k _; exact step2A d L hi0 k
  · unfold inv2A
    isplitl [H2]; · iexact H2
    iexists _; isplitr
    swap; · iexact H3
    ipureintro; intro y hy; exact absurd hy (by show ¬ _ < 16 * 0; omega)
  iintro %_ HI2
  unfold inv2A
  icases HI2 with ⟨H2, %v0, %hv0, H3⟩
  replace hv0 : Done rV v0 64 (valAtRow (rowL A L)) := hv0
  sl_exec (disch := exact View.amount_pos _ _ (show 0 < S29x8x128.numel by decide))
  ihave H1' := (gotB d L A f1 (tile_run.sl.dma0_1 d L A) rfl) $$ H1
  icases H1' with ⟨%g1, %hg1, H1⟩
  sl_for (fun n (_ : PUnit) => inv1B d L (rowL A L) g1 n) $$ [H1 H2 H4]
  case region => intro k _; exact step1B d L hg1 k _
  · unfold inv1B
    isplitl [H1]; · iexact H1
    isplitl [H2]
    · iexists _; isplitr
      swap; · iexact H2
      ipureintro; exact hi0
    · iexists _; isplitr
      swap; · iexact H4
      ipureintro; exact hm0
  iintro %_ HI3
  unfold inv1B
  icases HI3 with ⟨H1, ⟨%i1, %hi1, H2⟩, %m1, %hm1, H4⟩
  replace hi1 : Done rI i1 (64 + 64) (idxAtRow (rowL A L)) := hi1
  replace hm1 : Done rM m1 (64 + 64) (mpAtRow (rowL A L)) := hm1
  sl_exec
  sl_for (fun n (_ : PUnit) => inv2B d L (rowL A L) i1 n) $$ [H2 H3]
  case region => intro k _; exact step2B d L hi1 k
  · unfold inv2B
    isplitl [H2]; · iexact H2
    iexists _; isplitr
    swap; · iexact H3
    ipureintro; exact hv0
  iintro %_ HI4
  unfold inv2B
  icases HI4 with ⟨H2, %v1, %hv1, H3⟩
  replace hv1 : Done rV v1 (64 + 64) (valAtRow (rowL A L)) := hv1
  sl_exec (disch := exact View.amount_pos _ _ (show 0 < S16x128.numel by decide))
  ihave HI' := (Entails.of_eq (pointsTo_congr (wroteI L fI (gI A) (tile_run.sl.dma0_2 i1) fun y => (hi1 y (pos_lt y)).trans (gI_dst A L y).symm))) $$ HI
  ihave HV' := (Entails.of_eq (pointsTo_congr (wroteV L fV (gV A) (tile_run.sl.dma0_3 v1) fun y => (hv1 y (pos_lt y)).trans (gV_dst A L y).symm))) $$ HV
  ihave HM' := (Entails.of_eq (pointsTo_congr (wroteM L fM (gM A) (tile_run.sl.dma0_4 m1) fun y => (hm1 y (pos_lt y)).trans (gM_dst A L y).symm))) $$ HM
  sl_step
  isplitl [Hx]; · iexact Hx
  isplitl [HI']; · iexact HI'
  isplitl [HV']; · iexact HV'
  isplitl [HM']; · iexact HM'
  isplitl [H0]; · iexists _; iexact H0
  isplitl [H1]; · iexists _; iexact H1
  isplitl [H2]; · iexists _; iexact H2
  isplitl [H3]; · iexists _; iexact H3
  isplitl [H4]; · iexists _; iexact H4
  isplitl [Hs5]; · iexact Hs5
  isplitl [Hs6]; · iexact Hs6
  isplitl [Ht0]; · iexact Ht0
  isplitl [Ht1]; · iexact Ht1
  isplitl [Ht2]; · iexact Ht2
  iexists _; iexact HO

/-! ## The task over the tile's own resources -/

omit [FloatOps F] in
/-- The tile's own semaphores at zero: the five cells of the task and the rest. -/
theorem ownSems0_V :
    (ownSems0 (V d (cV L) (jV L)) : sProp 𝕄)
      = iprop(semVal (cell d L cc0_scratch5.sem) 0 ∗ semVal (cell d L cc0_scratch6.sem) 0 ∗ semVal (cell d L cc0_scoped0.sem) 0
          ∗ semVal (cell d L cc0_scoped1.sem) 0 ∗ semVal (cell d L cc0_scoped2.sem) 0
          ∗ bigSep ((((((ownCells (V d (cV L) (jV L))).erase (cell d L cc0_scratch5.sem)).erase (cell d L cc0_scratch6.sem)).erase (cell d L cc0_scoped0.sem)).erase
              (cell d L cc0_scoped1.sem)).erase (cell d L cc0_scoped2.sem)) fun g => semVal g 0) := by
  have own : ∀ s : DmaSem sig, (SemLoc.dma s : SemLoc sig).isScoped .scVector = true → cell d L s ∈ ownCells (V d (cV L) (jV L)) := fun s h =>
    (mem_ownCells (g := cell d L s)).mpr ⟨rfl, h⟩
  have ne : ∀ s t : DmaSem sig, s ≠ t → cell d L s ≠ cell d L t := fun s t h e => h (by simpa [cell] using e)
  unfold SparseCore.Cfg.ownSems0
  rw [SparseCore.bigSep_erase' (own cc0_scratch5.sem (by decide)),
    SparseCore.bigSep_erase' (Finset.mem_erase.mpr ⟨ne cc0_scratch6.sem cc0_scratch5.sem (by decide), own cc0_scratch6.sem (by decide)⟩),
    SparseCore.bigSep_erase' (Finset.mem_erase.mpr ⟨ne cc0_scoped0.sem cc0_scratch6.sem (by decide),
      Finset.mem_erase.mpr ⟨ne cc0_scoped0.sem cc0_scratch5.sem (by decide), own cc0_scoped0.sem (by decide)⟩⟩),
    SparseCore.bigSep_erase' (Finset.mem_erase.mpr ⟨ne cc0_scoped1.sem cc0_scoped0.sem (by decide),
      Finset.mem_erase.mpr ⟨ne cc0_scoped1.sem cc0_scratch6.sem (by decide),
      Finset.mem_erase.mpr ⟨ne cc0_scoped1.sem cc0_scratch5.sem (by decide), own cc0_scoped1.sem (by decide)⟩⟩⟩),
    SparseCore.bigSep_erase' (Finset.mem_erase.mpr ⟨ne cc0_scoped2.sem cc0_scoped1.sem (by decide),
      Finset.mem_erase.mpr ⟨ne cc0_scoped2.sem cc0_scoped0.sem (by decide),
      Finset.mem_erase.mpr ⟨ne cc0_scoped2.sem cc0_scratch6.sem (by decide),
      Finset.mem_erase.mpr ⟨ne cc0_scoped2.sem cc0_scratch5.sem (by decide), own cc0_scoped2.sem (by decide)⟩⟩⟩⟩)]

/-- A buffer of the tile, as the device names it. -/
abbrev tref (b : Ref sig .scVector) : DevRef τ sig := (Proc.scVector (cV L) (jV L)).devRef b

omit [FloatOps F] in
/-- The tile's own buffers: the five of the task and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase (tref L cc0_scratch0)).erase (tref L cc0_scratch1)).erase (tref L cc0_scratch2)).erase
              (tref L cc0_scratch3)).erase (tref L cc0_scratch4))
              fun b => iprop(∃ f, ((d, b) : Loc nD τ sig) ↦{fullShare} f)) := by
  have own : ∀ b : Ref sig .scVector, (tref L b).owner = .proc (Proc.scVector (cV L) (jV L)) → tref L b ∈ ownRefs (τ := τ) (.scVector (cV L) (jV L)) := fun b h =>
    SparseCore.Cfg.mem_ownRefs_of_owner (p := Proc.scVector (cV L) (jV L)) (b := tref L b) h
  have ne : ∀ s t : Ref sig .scVector, s ≠ t → tref L s ≠ tref L t := fun s t h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩),
    SparseCore.bigSep_erase' (Finset.mem_erase.mpr ⟨ne cc0_scratch3 cc0_scratch2 (by decide),
      Finset.mem_erase.mpr ⟨ne cc0_scratch3 cc0_scratch1 (by decide),
      Finset.mem_erase.mpr ⟨ne cc0_scratch3 cc0_scratch0 (by decide), own cc0_scratch3 rfl⟩⟩⟩),
    SparseCore.bigSep_erase' (Finset.mem_erase.mpr ⟨ne cc0_scratch4 cc0_scratch3 (by decide),
      Finset.mem_erase.mpr ⟨ne cc0_scratch4 cc0_scratch2 (by decide),
      Finset.mem_erase.mpr ⟨ne cc0_scratch4 cc0_scratch1 (by decide),
      Finset.mem_erase.mpr ⟨ne cc0_scratch4 cc0_scratch0 (by decide), own cc0_scratch4 rfl⟩⟩⟩⟩)]

/-- The scores' array of a device, and its three result arrays of the tasks. -/
abbrev xLoc (d : Dev nD) : Loc nD τ sig := (SparseCore.T d).loc main_v1
abbrev iLoc (d : Dev nD) : Loc nD τ sig := (SparseCore.T d).loc main_v3_0
abbrev vLoc (d : Dev nD) : Loc nD τ sig := (SparseCore.T d).loc main_v3_1
abbrev mLoc (d : Dev nD) : Loc nD τ sig := (SparseCore.T d).loc main_v3_2

/-- What a task is handed: its share of the scores and its places of the results; -/
abbrev taskIn (A : Buf (Elt F) (xLoc d)) (fI : Buf (Elt F) (iLoc d)) (fV : Buf (Elt F) (vLoc d)) (fM : Buf (Elt F) (mLoc d)) : sProp 𝕄 :=
  iprop((xLoc d ↦{Transfers.shareTok fullShare 32 (widF L)} A) ∗ (iLoc d ↦[rowSet L]{fullShare} fI) ∗ (vLoc d ↦[rowSet L]{fullShare} fV) ∗ (mLoc d ↦[rowSet L]{fullShare} fM))

/-- The task with the tile's own buffers and semaphores, from what it is handed to the same with the results in. -/
theorem tile_body (hF : (K (F := F)).Facts) (O : CellTallies nD τ sig (HIx 1)) (W : Waits sig (HIx 1)) (hO : ∀ g, O g none = 0)
    (A : Buf (Elt F) (xLoc d)) (fI : Buf (Elt F) (iLoc d)) (fV : Buf (Elt F) (vLoc d)) (fM : Buf (Elt F) (mLoc d)) :
    iprop(levAts (K (F := F)).L (K (F := F)).lev ∗ emp ∗ taskIn d L A fI fV fM
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xA (Memref.isWhole_whole _) oI (Memref.isWhole_whole _) oV (Memref.isWhole_whole _) oM (Memref.isWhole_whole _)
            b0 (Memref.isWhole_whole _) b1 (Memref.isWhole_whole _) rI (Memref.isWhole_whole _) rV (Memref.isWhole_whole _) rM (Memref.isWhole_whole _)
            cc0_scratch5 cc0_scratch6 cc0_scoped0 cc0_scoped1 cc0_scoped2)
          fun _ => iprop(taskIn d L A (gI A) (gV A) (gM A)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskIn
  iintro ⟨#Hlv, -, ⟨Hx, HI, HV, HM⟩, ⟨⟨%f0, H0⟩, ⟨%f1, H1⟩, ⟨%f2, H2⟩, ⟨%f3, H3⟩, ⟨%f4, H4⟩, Hbufs⟩, ⟨Hs5, Hs6, Ht0, Ht1, Ht2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand _ (wpE (defs₀ (F := F)) 𝒱₀ (V d (cV L) (jV L)) none) Set.univ) $$ [Hmw Hx HI HV HM H0 H1 H2 H3 H4 Hs5 Hs6 Ht0 Ht1 Ht2 HO]
  · iapply (tile_run d L O W (Transfers.shareTok fullShare 32 (widF L)) A fI fV fM f0 f1 f2 f3 f4)
    rw [set_dstV, set_dstM, show (dstI L).view.set = rowSet L from rfl]
    isplitl [Hmw]; · iexact Hmw
    isplitl [Hx]; · iexact Hx
    isplitl [HI]; · iexact HI
    isplitl [HV]; · iexact HV
    isplitl [HM]; · iexact HM
    isplitl [H0]; · iexact H0
    isplitl [H1]; · iexact H1
    isplitl [H2]; · iexact H2
    isplitl [H3]; · iexact H3
    isplitl [H4]; · iexact H4
    isplitl [Hs5]; · iexact Hs5
    isplitl [Hs6]; · iexact Hs6
    isplitl [Ht0]; · iexact Ht0
    isplitl [Ht1]; · iexact Ht1
    isplitl [Ht2]; · iexact Ht2
    iexact HO
  rw [set_dstV, set_dstM, show (dstI L).view.set = rowSet L from rfl]
  iintro %_ ⟨Hx, HI, HV, HM, H0, H1, H2, H3, H4, Hs5, Hs6, Ht0, Ht1, Ht2, %W', HO⟩
  isplitl [Hx HI HV HM]
  · isplitl [Hx]; · iexact Hx
    isplitl [HI]; · iexact HI
    isplitl [HV]; · iexact HV
    iexact HM
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [Hs5 Hs6 Ht0 Ht1 Ht2 Hsems]
  · isplitl [Hs5]; · iexact Hs5
    isplitl [Hs6]; · iexact Hs6
    isplitl [Ht0]; · iexact Ht0
    isplitl [Ht1]; · iexact Ht1
    isplitl [Ht2]; · iexact Ht2
    iexact Hsems
  iexists _; isplitr
  swap; · iexact HO
  ipureintro; intro p _
  rcases p.2 with _ | q
  · exact .inr (.inl rfl)
  · exact .inr (.inr (congrArg some (Subsingleton.elim q 0)))

end Cert.Proof

end
-- ==== Proof.Host.lean ====
/-
  The host operations of @main before and after the two calls, and the arrays' contents between them.
-/
module

public import proofs.«01_k».proof.Proof.Tc
public import proofs.«01_k».proof.Proof.Tile
public import Idealize.ShloMosaic.Lib.Pipeline.Frame

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.TcCoe

variable {F : FTy → Type} [FloatOps F]

/-! ## The host operations -/

/-- Those before the SparseCore call: the scores in the two layouts. -/
def headOps : List (HloOp τ sig (Elt F)) := [
  StableHlo.reshape main_arg0 main_v0 (rfl : (.f32 : EltTy) = .f32) shapeCasts_S128x2048x29_S16x8x16x128x29,
  StableHlo.unary main_v0 main_v1 ((transpose S29x16x16x8x128 [4, 0, 2, 1, 3] · transposes_S16x8x16x128x29_S29x16x16x8x128_4_0_2_1_3) : (⟨S16x8x16x128x29, .f32⟩ : BufTy).Contents (Elt F) → (⟨S29x16x16x8x128, .f32⟩ : BufTy).Contents (Elt F)),
  StableHlo.unary main_arg0 main_v2 ((transpose S29x128x2048 [2, 0, 1] · transposes_S128x2048x29_S29x128x2048_2_0_1) : (⟨S128x2048x29, .f32⟩ : BufTy).Contents (Elt F) → (⟨S29x128x2048, .f32⟩ : BufTy).Contents (Elt F))
  ]

/-- Those after the TensorCore call: the SparseCore's rows laid into the results, and the mask's test. -/
def tailOps : List (HloOp τ sig (Elt F)) := [
  StableHlo.unary main_v3_0 main_v5 ((transpose S4x8x16x128 [0, 2, 1, 3] · transposes_S4x16x8x128_S4x8x16x128_0_2_1_3) : (⟨S4x16x8x128, .i32⟩ : BufTy).Contents (Elt F) → (⟨S4x8x16x128, .i32⟩ : BufTy).Contents (Elt F)),
  StableHlo.reshape main_v5 main_v6 (rfl : (.i32 : EltTy) = .i32) shapeCasts_S4x8x16x128_S32x2048,
  StableHlo.nullary main_c (constantI S_ 32 0#32),
  StableHlo.nullary main_c_0 (constantI S_ 32 0#32),
  StableHlo.binaryIndexed main_v4_0 main_v6 ![main_c, main_c_0] ⟨S_, .i32⟩ main_v7 ((fun x u i => Host.dynamicUpdateSlice x u (fun k => (i k (Shape.Idx.first h_S_)).toInt) updateFits_S128x2048_S32x2048) : (⟨S128x2048, .i32⟩ : BufTy).Contents (Elt F) → (⟨S32x2048, .i32⟩ : BufTy).Contents (Elt F) → (Fin 2 → (⟨S_, .i32⟩ : BufTy).Contents (Elt F)) → (⟨S128x2048, .i32⟩ : BufTy).Contents (Elt F)),
  StableHlo.unary main_v3_1 main_v8 ((transpose S4x8x16x128 [0, 2, 1, 3] · transposes_S4x16x8x128_S4x8x16x128_0_2_1_3) : (⟨S4x16x8x128, .i32⟩ : BufTy).Contents (Elt F) → (⟨S4x8x16x128, .i32⟩ : BufTy).Contents (Elt F)),
  StableHlo.reshape main_v8 main_v9 (rfl : (.i32 : EltTy) = .i32) shapeCasts_S4x8x16x128_S32x2048,
  StableHlo.nullary main_c_1 (constantI S_ 32 0#32),
  StableHlo.nullary main_c_2 (constantI S_ 32 0#32),
  StableHlo.binaryIndexed main_v4_1 main_v9 ![main_c_1, main_c_2] ⟨S_, .i32⟩ main_v10 ((fun x u i => Host.dynamicUpdateSlice x u (fun k => (i k (Shape.Idx.first h_S_)).toInt) updateFits_S128x2048_S32x2048) : (⟨S128x2048, .i32⟩ : BufTy).Contents (Elt F) → (⟨S32x2048, .i32⟩ : BufTy).Contents (Elt F) → (Fin 2 → (⟨S_, .i32⟩ : BufTy).Contents (Elt F)) → (⟨S128x2048, .i32⟩ : BufTy).Contents (Elt F)),
  StableHlo.unary main_v3_2 main_v11 ((transpose S4x8x16x128 [0, 2, 1, 3] · transposes_S4x16x8x128_S4x8x16x128_0_2_1_3) : (⟨S4x16x8x128, .f32⟩ : BufTy).Contents (Elt F) → (⟨S4x8x16x128, .f32⟩ : BufTy).Contents (Elt F)),
  StableHlo.reshape main_v11 main_v12 (rfl : (.f32 : EltTy) = .f32) shapeCasts_S4x8x16x128_S32x2048,
  StableHlo.nullary main_c_3 (constantI S_ 32 0#32),
  StableHlo.nullary main_c_4 (constantI S_ 32 0#32),
  StableHlo.binaryIndexed main_v4_2 main_v12 ![main_c_3, main_c_4] ⟨S_, .i32⟩ main_v13 ((fun x u i => Host.dynamicUpdateSlice x u (fun k => (i k (Shape.Idx.first h_S_)).toInt) updateFits_S128x2048_S32x2048) : (⟨S128x2048, .f32⟩ : BufTy).Contents (Elt F) → (⟨S32x2048, .f32⟩ : BufTy).Contents (Elt F) → (Fin 2 → (⟨S_, .i32⟩ : BufTy).Contents (Elt F)) → (⟨S128x2048, .f32⟩ : BufTy).Contents (Elt F)),
  StableHlo.nullary main_c_5 (constantI S_ 32 0#32),
  StableHlo.unary main_c_5 main_v14 (broadcastInDim S128x2048 ![] bcast_S_S128x2048 : (⟨S_, .i32⟩ : BufTy).Contents (Elt F) → (⟨S128x2048, .i32⟩ : BufTy).Contents (Elt F)),
  StableHlo.binary main_v10 main_v14 main_v15 (cmpi .ne : (⟨S128x2048, .i32⟩ : BufTy).Contents (Elt F) → (⟨S128x2048, .i32⟩ : BufTy).Contents (Elt F) → (⟨S128x2048, .i1⟩ : BufTy).Contents (Elt F)),
  StableHlo.unary main_v15 main_v16 (id : (⟨S128x2048, .i1⟩ : BufTy).Contents (Elt F) → (⟨S128x2048, .i1⟩ : BufTy).Contents (Elt F))
  ]

/-- @main is the head, the SparseCore call, the TensorCore call and the tail. -/
theorem main_eq (d : Dev nD) : main (F := F) d
    = (StableHlo.seq headOps >>= fun _ => sc.run d 0 >>= fun _ => Prog.lift (.customCall (SparseCore.inner (Pipeline.entry 0)) ()) >>= fun _ => StableHlo.seq tailOps) := rfl

/-! ## The contents between the calls -/

variable (m : (ℓ : Loc nD τ sig) → Buf (Elt F) ℓ)

/-- Before the SparseCore call. -/
def V1 (d : Dev nD) : Valuation τ sig (Elt F) := StableHlo.after headOps (StableHlo.launchContents m d)

/-- The scores as the SparseCore's tiles read them. -/
abbrev scA (d : Dev nD) : Buf (Elt F) (xLoc d) := V1 m d (Proc.devRef .tc main_v1)

/-- After the SparseCore call. -/
def V2 (d : Dev nD) : Valuation τ sig (Elt F) :=
  Function.update (Function.update (Function.update (V1 m d) (Proc.devRef .tc main_v3_0) (gI (scA m d)))
    (Proc.devRef .tc main_v3_1) (gV (scA m d))) (Proc.devRef .tc main_v3_2) (gM (scA m d))

/-- After the TensorCore call. -/
def V3 (d : Dev nD) : Valuation τ sig (Elt F) :=
  Function.update (Function.update (Function.update (V2 m d) (Proc.devRef .tc main_v4_0) (outI (V2 m) d))
    (Proc.devRef .tc main_v4_1) (outV (V2 m) d)) (Proc.devRef .tc main_v4_2) (outM (V2 m) d)

/-- At the end. -/
def V4 (d : Dev nD) : Valuation τ sig (Elt F) := StableHlo.after tailOps (V3 m d)

theorem V2_i (d : Dev nD) : V2 m d (Proc.devRef .tc main_v3_0) = gI (scA m d) := by
  rw [V2, Function.update_of_ne (by decide), Function.update_of_ne (by decide), Function.update_self]
theorem V2_v (d : Dev nD) : V2 m d (Proc.devRef .tc main_v3_1) = gV (scA m d) := by
  rw [V2, Function.update_of_ne (by decide), Function.update_self]
theorem V2_m (d : Dev nD) : V2 m d (Proc.devRef .tc main_v3_2) = gM (scA m d) := by
  rw [V2, Function.update_self]
theorem V2_ne (d : Dev nD) (b : DevRef τ sig) (h0 : b ≠ Proc.devRef .tc main_v3_0) (h1 : b ≠ Proc.devRef .tc main_v3_1) (h2 : b ≠ Proc.devRef .tc main_v3_2) :
    V2 m d b = V1 m d b := by
  rw [V2, Function.update_of_ne h2, Function.update_of_ne h1, Function.update_of_ne h0]
theorem V3_i (d : Dev nD) : V3 m d (Proc.devRef .tc main_v4_0) = outI (V2 m) d := by
  rw [V3, Function.update_of_ne (by decide), Function.update_of_ne (by decide), Function.update_self]
theorem V3_v (d : Dev nD) : V3 m d (Proc.devRef .tc main_v4_1) = outV (V2 m) d := by
  rw [V3, Function.update_of_ne (by decide), Function.update_self]
theorem V3_m (d : Dev nD) : V3 m d (Proc.devRef .tc main_v4_2) = outM (V2 m) d := by
  rw [V3, Function.update_self]
theorem V3_ne (d : Dev nD) (b : DevRef τ sig) (h0 : b ≠ Proc.devRef .tc main_v4_0) (h1 : b ≠ Proc.devRef .tc main_v4_1) (h2 : b ≠ Proc.devRef .tc main_v4_2) :
    V3 m d b = V2 m d b := by
  rw [V3, Function.update_of_ne h2, Function.update_of_ne h1, Function.update_of_ne h0]

theorem devRef_ne {a b : Ref sig .tc} (h : a ≠ b) : (Proc.devRef .tc a : DevRef τ sig) ≠ Proc.devRef .tc b :=
  fun e => h (Proc.devRef_injective _ e)

/-! ## The operations' buffers -/

theorem head_bufs : ∀ op ∈ headOps (F := F), op.bufs ⊆ Pipeline.ucRefs τ sig := by
  intro op h
  apply Pipeline.sub_ucRefs
  simp only [headOps, List.mem_cons, List.not_mem_nil, or_false] at h
  rcases h with rfl | rfl | rfl <;> simp
theorem tail_bufs : ∀ op ∈ tailOps (F := F), op.bufs ⊆ Pipeline.ucRefs τ sig := by
  intro op h
  apply Pipeline.sub_ucRefs
  simp only [tailOps, List.mem_cons, List.not_mem_nil, or_false] at h
  rcases h with rfl | rfl | rfl | rfl | rfl | rfl | rfl | rfl | rfl | rfl | rfl | rfl | rfl | rfl | rfl | rfl | rfl | rfl | rfl <;> simp
theorem head_fresh : ∀ op ∈ headOps (F := F), op.fresh = ∅ := by
  intro op h
  simp only [headOps, List.mem_cons, List.not_mem_nil, or_false] at h
  rcases h with rfl | rfl | rfl <;> rfl
theorem tail_fresh : ∀ op ∈ tailOps (F := F), op.fresh = ∅ := by
  intro op h
  simp only [tailOps, List.mem_cons, List.not_mem_nil, or_false] at h
  rcases h with rfl | rfl | rfl | rfl | rfl | rfl | rfl | rfl | rfl | rfl | rfl | rfl | rfl | rfl | rfl | rfl | rfl | rfl | rfl <;> rfl

end Cert.Proof

end
-- ==== Proof.Deal.lean ====
/-
  The thirty-two tasks of the SparseCore call: the arrays dealt to them and gathered again.
-/
module

public import proofs.«01_k».proof.Proof.Host
public import Idealize.ShloMosaic.Lib.Pipeline.FrameTail

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.TcCoe

variable {F : FTy → Type}
local notation "𝕄" => MT nD τ sig (HIx 1) (Elt F) ℕ UU ℕ

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The task at `p`. -/
abbrev at2 (p : Fin 2 × Fin 16) : grid0.Coords := coordsV p.1 p.2

theorem wid_at2 (p : Fin 2 × Fin 16) : wid (at2 p) = p.2.val * 2 + p.1.val := rfl

/-- Each row of the first thirty-two is one task's. -/
def rowsEquiv : Fin 2 × Fin 16 ≃ Fin 32 where
  toFun p := widF (at2 p)
  invFun w := (⟨w.val % 2, Nat.mod_lt _ (by decide)⟩, ⟨w.val / 2, by have := w.isLt; omega⟩)
  left_inv := fun ⟨c, i⟩ => by
    have hc := c.isLt
    refine Prod.ext (Fin.ext ?_) (Fin.ext ?_)
    · show wid (at2 (c, i)) % 2 = c.val
      rw [wid_at2]; dsimp only; omega
    · show wid (at2 (c, i)) / 2 = i.val
      rw [wid_at2]; dsimp only; omega
  right_inv := fun w => Fin.ext (by
    show w.val / 2 * 2 + w.val % 2 = w.val
    omega)

theorem wid_inj {p p' : Fin 2 × Fin 16} (h : wid (at2 p) = wid (at2 p')) : p = p' :=
  rowsEquiv.injective (Fin.ext h)

/-- Different tasks write different rows. -/
theorem rows_disjoint : ∀ p ∈ (Finset.univ : Finset (Fin 2 × Fin 16)), ∀ p' ∈ (Finset.univ : Finset (Fin 2 × Fin 16)), p ≠ p' →
    Disjoint (rowSet (at2 p)) (rowSet (at2 p')) := by
  intro p _ p' _ h
  rw [Finset.disjoint_left]
  intro j hj hj'
  have h1 := (mem_rowSet _ _).1 hj
  have h2 := (mem_rowSet _ _).1 hj'
  exact h (wid_inj (by omega))

/-- Together they write everything. -/
theorem rows_cover : (Finset.univ : Finset (Fin 2 × Fin 16)).biUnion (fun p => rowSet (at2 p)) = (Finset.univ : Finset S4x16x8x128.Idx) := by
  ext j
  simp only [Finset.mem_biUnion, Finset.mem_univ, true_and, iff_true]
  have h0 : (j 0).val < 4 := (j 0).isLt
  have h2 : (j 2).val < 8 := (j 2).isLt
  obtain ⟨p, hp⟩ := rowsEquiv.surjective ⟨(j 0).val * 8 + (j 2).val, by omega⟩
  have hw : wid (at2 p) = (j 0).val * 8 + (j 2).val := congrArg Fin.val hp
  exact ⟨p, (mem_rowSet _ _).2 (by rw [hw]; omega)⟩

variable (d : Dev nD)

theorem iRows (f : Buf (Elt F) (iLoc d)) :
    (iLoc d ↦{fullShare} f : sProp 𝕄) = bigSep Finset.univ fun p : Fin 2 × Fin 16 => iLoc d ↦[rowSet (at2 p)]{fullShare} f := by
  rw [← pointsTo_biUnion Finset.univ (ℓ := iLoc d) (fun p => rowSet (at2 p)) rows_disjoint, rows_cover]
theorem vRows (f : Buf (Elt F) (vLoc d)) :
    (vLoc d ↦{fullShare} f : sProp 𝕄) = bigSep Finset.univ fun p : Fin 2 × Fin 16 => vLoc d ↦[rowSet (at2 p)]{fullShare} f := by
  rw [← pointsTo_biUnion Finset.univ (ℓ := vLoc d) (fun p => rowSet (at2 p)) rows_disjoint, rows_cover]
theorem mRows (f : Buf (Elt F) (mLoc d)) :
    (mLoc d ↦{fullShare} f : sProp 𝕄) = bigSep Finset.univ fun p : Fin 2 × Fin 16 => mLoc d ↦[rowSet (at2 p)]{fullShare} f := by
  rw [← pointsTo_biUnion Finset.univ (ℓ := mLoc d) (fun p => rowSet (at2 p)) rows_disjoint, rows_cover]

variable (A : Buf (Elt F) (xLoc d)) (fI : Buf (Elt F) (iLoc d)) (fV : Buf (Elt F) (vLoc d)) (fM : Buf (Elt F) (mLoc d))

/-- The four arrays of the call, whole. -/
abbrev whole : sProp 𝕄 := iprop((xLoc d ↦{fullShare} A) ∗ (iLoc d ↦{fullShare} fI) ∗ (vLoc d ↦{fullShare} fV) ∗ (mLoc d ↦{fullShare} fM))
/-- What the tasks get of them, core by core. -/
abbrev tasks : sProp 𝕄 := bigSep Finset.univ fun c : Fin 2 => bigSep Finset.univ fun i : Fin 16 => taskIn d (coordsV c i) A fI fV fM
/-- What of the scores no task gets. -/
abbrev kept : sProp 𝕄 := xLoc d ↦{Transfers.shareDrop fullShare 32} A

theorem tasks_eq : (tasks d A fI fV fM : sProp 𝕄)
    = iprop((bigSep Finset.univ fun w : Fin 32 => xLoc d ↦{Transfers.shareTok fullShare 32 w} A) ∗ (iLoc d ↦{fullShare} fI) ∗ (vLoc d ↦{fullShare} fV) ∗ (mLoc d ↦{fullShare} fM)) := by
  rw [iRows, vRows, mRows, bigSep_univ_equiv rowsEquiv, ← bigSep_sep', ← bigSep_sep', ← bigSep_sep']
  exact (bigSep_univ_prod (fun p : Fin 2 × Fin 16 => taskIn d (at2 p) A fI fV fM)).symm

/-- The arrays are dealt to the tasks, -/
theorem deal : (whole d A fI fV fM : sProp 𝕄) ⊢ iprop(kept d A ∗ tasks d A fI fV fM) := by
  rw [tasks_eq]
  iintro ⟨Hx, Hi, Hv, Hm⟩
  ihave H := (Transfers.pointsTo_toks_split fullShare 32) $$ Hx
  icases H with ⟨Hk, Ht⟩
  isplitl [Hk]; · iexact Hk
  isplitl [Ht]; · iexact Ht
  isplitl [Hi]; · iexact Hi
  isplitl [Hv] <;> iassumption

/-- and gathered. -/
theorem gather : iprop(kept d A ∗ tasks d A fI fV fM) ⊢ (whole d A fI fV fM : sProp 𝕄) := by
  rw [tasks_eq]
  iintro ⟨Hk, Ht, Hi, Hv, Hm⟩
  isplitl [Hk Ht]
  · iapply (Transfers.pointsTo_toks_join fullShare 32)
    isplitl [Hk] <;> iassumption
  isplitl [Hi]; · iexact Hi
  isplitl [Hv] <;> iassumption

/-- The buffers of the call among the TensorCore's. -/
abbrev scBufs : Finset (DevRef τ sig) :=
  {Proc.devRef .tc main_v1, Proc.devRef .tc main_v3_0, Proc.devRef .tc main_v3_1, Proc.devRef .tc main_v3_2}

theorem scBufs_sub : scBufs ⊆ Pipeline.ucRefs τ sig := by
  intro b hb
  simp only [scBufs, Finset.mem_insert, Finset.mem_singleton] at hb
  rcases hb with rfl | rfl | rfl | rfl <;> exact Pipeline.devRef_mem_ucRefs rfl

theorem held_scBufs (W : Valuation τ sig (Elt F)) :
    (StableHlo.held (SparseCore.T d : Thread nD τ) scBufs W : sProp 𝕄)
      = whole d (W (Proc.devRef .tc main_v1)) (W (Proc.devRef .tc main_v3_0)) (W (Proc.devRef .tc main_v3_1)) (W (Proc.devRef .tc main_v3_2)) := by
  unfold StableHlo.held scBufs
  rw [SparseCore.bigSep_insert' (by decide), SparseCore.bigSep_insert' (by decide), SparseCore.bigSep_insert' (by decide), bigSep_singleton]

end Cert.Proof

end
-- ==== Proof.Launch.lean ====
/-
  The launch: the two calls and the host operations put together into the run of the whole program.
-/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.TcCoe

variable {F : FTy → Type}
local notation "𝕄" => MT nD τ sig (HIx 1) (Elt F) ℕ UU ℕ

local notation "xA" => (Memref.whole Cert.KernelIdeal.main_v1_scv : Memref Cert.KernelIdeal.sig Kind.scVector Space.hbm Cert.KernelIdeal.S29x16x16x8x128 EltTy.f32)
local notation "oI" => (Memref.whole Cert.KernelIdeal.main_v3_0_scv : Memref Cert.KernelIdeal.sig Kind.scVector Space.hbm Cert.KernelIdeal.S4x16x8x128 EltTy.i32)
local notation "oV" => (Memref.whole Cert.KernelIdeal.main_v3_1_scv : Memref Cert.KernelIdeal.sig Kind.scVector Space.hbm Cert.KernelIdeal.S4x16x8x128 EltTy.i32)
local notation "oM" => (Memref.whole Cert.KernelIdeal.main_v3_2_scv : Memref Cert.KernelIdeal.sig Kind.scVector Space.hbm Cert.KernelIdeal.S4x16x8x128 EltTy.f32)
local notation "b0" => (Memref.whole Cert.KernelIdeal.cc0_scratch0 : Memref Cert.KernelIdeal.sig Kind.scVector Space.vmem Cert.KernelIdeal.S29x8x128 EltTy.f32)
local notation "b1" => (Memref.whole Cert.KernelIdeal.cc0_scratch1 : Memref Cert.KernelIdeal.sig Kind.scVector Space.vmem Cert.KernelIdeal.S29x8x128 EltTy.f32)
local notation "rI" => (Memref.whole Cert.KernelIdeal.cc0_scratch2 : Memref Cert.KernelIdeal.sig Kind.scVector Space.vmem Cert.KernelIdeal.S16x128 EltTy.i32)
local notation "rV" => (Memref.whole Cert.KernelIdeal.cc0_scratch3 : Memref Cert.KernelIdeal.sig Kind.scVector Space.vmem Cert.KernelIdeal.S16x128 EltTy.i32)
local notation "rM" => (Memref.whole Cert.KernelIdeal.cc0_scratch4 : Memref Cert.KernelIdeal.sig Kind.scVector Space.vmem Cert.KernelIdeal.S16x128 EltTy.f32)

variable [FloatOps F]

/-- The table's entry for a tile. -/
theorem defs₀_vector (c : Fin τ.nSC) (s : Fin τ.nSub) :
    defs₀ (F := F) (.scVector c s) 0 ()
      = SparseCore.onTile hcore0 hsub0 (fun c s => cc0_k (coordsV c s) xA (Memref.isWhole_whole _) oI (Memref.isWhole_whole _)
          oV (Memref.isWhole_whole _) oM (Memref.isWhole_whole _) b0 (Memref.isWhole_whole _) b1 (Memref.isWhole_whole _)
          rI (Memref.isWhole_whole _) rV (Memref.isWhole_whole _) rM (Memref.isWhole_whole _)
          cc0_scratch5 cc0_scratch6 cc0_scoped0 cc0_scoped1 cc0_scoped2) ⟨⟩ c s := rfl

variable (m : (ℓ : Loc nD τ sig) → Buf (Elt F) ℓ) (ρ : Dev nD → PrngReg)

/-! ## What the handshakes carry -/

/-- A task's share before it runs, -/
abbrev goP (d : Dev nD) (c : Fin 2) (i : Fin 16) : sProp 𝕄 :=
  taskIn d (coordsV c i) (scA m d) (V1 m d (Proc.devRef .tc main_v3_0)) (V1 m d (Proc.devRef .tc main_v3_1)) (V1 m d (Proc.devRef .tc main_v3_2))
/-- and after. -/
abbrev tdP (d : Dev nD) (c : Fin 2) (i : Fin 16) : sProp 𝕄 :=
  taskIn d (coordsV c i) (scA m d) (gI (scA m d)) (gV (scA m d)) (gM (scA m d))

/-- The call takes every task's share and brings them back with the rows decoded. -/
def P : (K (F := F)).Pay (nD := nD) (Val := Elt F) (Name := ℕ) (U := UU) where
  st := fun q d c => match q with | 0 => bigSep Finset.univ fun i : Fin 16 => goP m d c i
  dn := fun q d c => match q with | 0 => bigSep Finset.univ fun i : Fin 16 => tdP m d c i
  go := fun q d c i => match q with | 0 => goP m d c i
  td := fun q d c i => match q with | 0 => tdP m d c i
  x := fun _ _ => iprop(emp)

instance P_storable : (P (F := F) m).IsStorable where
  st q d c := match q with
    | 0 => (inferInstance : BI.Storable (upEmb : UEmb _ 𝕄) (bigSep Finset.univ fun i : Fin 16 => goP m d c i))
  dn q d c := match q with
    | 0 => (inferInstance : BI.Storable (upEmb : UEmb _ 𝕄) (bigSep Finset.univ fun i : Fin 16 => tdP m d c i))
  go q d c i := match q with
    | 0 => (inferInstance : BI.Storable (upEmb : UEmb _ 𝕄) (goP m d c i))
  td q d c i := match q with
    | 0 => (inferInstance : BI.Storable (upEmb : UEmb _ 𝕄) (tdP m d c i))

/-- A tile runs its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO _ _ _ _

/-- A sequencer hands its sixteen tasks their shares and takes them back. -/
theorem vecSplit : (K (F := F)).VecSplit' (P m) 0 := by
  intro d c
  show (bigSep Finset.univ fun i : Fin 16 => goP m d c i) ⊢ |={Set.univ}=> iprop((bigSep Finset.univ fun i : Fin 16 => goP m d c i)
    ∗ ((bigSep Finset.univ fun i : Fin 16 => tdP m d c i) -∗ (bigSep Finset.univ fun i : Fin 16 => tdP m d c i)))
  iintro H; imodintro
  isplitl [H]; · iexact H
  iintro H; iexact H

/-! ## The ghost state at the launch -/

/-- The handshakes' rounds, the pipeline's rounds, no transfers. -/
def u₀ : UU := (initOf (K (F := F)).hsCells (K (F := F)).hsToks,
  (initOf (Pipeline.cells (Pipeline.pin (pcfgs (F := F)) adm) launch1.cellOf_inj) (Pipeline.launchToks (Pipeline.pin (pcfgs (F := F)) adm) launch1.cellOf_inj), 1))

/-- What the TensorCore's region is entered with. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP launch1.cellOf_inj) $$ [HP] with ⟨Hg, Ht⟩
  · iexact HP
  imodintro
  isplitl [HH]; · iexact HH
  isplitl [Hg Ht]
  · rw [bigSep_sep']
    isplitl [Hg]
    · iapply (Entails.of_eq (bigSep_congr fun _ _ => bigSep_univ_of_subsingleton (0 : Fin 1))) $$ Hg
    iapply (Entails.of_eq (bigSep_congr fun _ _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The region's record at this run's contents. -/
abbrev reg1 := reg (V2 m) (V3 m) (V3_i m) (V3_v m) (V3_m m) (fun c b h0 h1 h2 => V3_ne m c _ (devRef_ne h0) (devRef_ne h1) (devRef_ne h2))

/-- What the TensorCore ends with. -/
abbrev FIN (d : Dev nD) : sProp 𝕄 := StableHlo.held (SparseCore.T d : Thread nD τ) (Pipeline.ucRefs τ sig) (V4 m d)

/-- The call's arrays back among the TensorCore's buffers. -/
theorem held_V2 (d : Dev nD) :
    iprop(whole d (scA m d) (gI (scA m d)) (gV (scA m d)) (gM (scA m d)) ∗ StableHlo.held (SparseCore.T d : Thread nD τ) (Pipeline.ucRefs τ sig \ scBufs) (V1 m d))
      ⊢ (StableHlo.held (SparseCore.T d : Thread nD τ) (Pipeline.ucRefs τ sig) (V2 m d) : sProp 𝕄) := by
  rw [StableHlo.held_sub_split _ scBufs_sub (V2 m d), held_scBufs, V2_i, V2_v, V2_m,
    V2_ne m d (Proc.devRef .tc main_v1) (by decide) (by decide) (by decide)]
  refine Entails.of_eq (congrArg _ (StableHlo.held_congr _ fun b hb => ?_))
  have hb' := (Finset.mem_sdiff.1 hb).2
  simp only [scBufs, Finset.mem_insert, Finset.mem_singleton, not_or] at hb'
  exact (V2_ne m d b hb'.2.1 hb'.2.2.1 hb'.2.2.2).symm

/-- The TensorCore's call, from the boundary, the arrays and its ghost state. -/
theorem tc_call [∀ e, Nonempty (Elt F e)] (d : Dev nD) (Φ : PUnit → sProp 𝕄) :
    iprop((iprop(boundary (d.tc : Thread nD τ) ∗ unscopedBufs d (fun b => V3 m d b) ∗ idleTc d) -∗ Φ ⟨⟩)
        ∗ boundary (d.tc : Thread nD τ) ∗ (unscopedBufs d (fun b => V2 m d b) ∗ idleTc d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have h1 := (K (F := F)).wp_liftProg (Name := ℕ) (U := UU) (Val := Elt F) (D (F := F)) 𝒱 (SparseCore.T d) Set.univ none
    (.op (.customCall (Pipeline.entry 0) ()) (fun _ => .ret ⟨⟩)) Φ
  have h2 := Pipeline.RegionSeg.wp (pcfgs (F := F)) adm (pdats (V2 m)) none launch1.cellOf_inj EP defs₀ 𝒱₀ (K (F := F)).L (K (F := F)).lev (reg1 m) d none
    (fun u hu => absurd hu (Option.not_mem_none u)) (fun _ => .ret ⟨⟩) Φ
  refine BIBase.Entails.trans ?_ (h2.trans h1)
  iintro ⟨Hk, H⟩
  isplitl [Hk]
  · iintro H
    rw [wp_ret]; imodintro
    iapply Hk; iexact H
  iexact H

/-- After its one SparseCore call the TensorCore owes nothing. -/
theorem tcSt_end (d : Dev nD) : ((K (F := F)).tcSt EH d ((0 : Fin 1).val + 1) : sProp 𝕄) ⊢ iprop(idleTc d ∗ (idleTc d -∗ (K (F := F)).tcSt EH d 1)) := by
  show (K (F := F)).tcSt EH d 1 ⊢ _
  unfold SparseCore.Cfg.tcSt idleTc
  rw [(K (F := F)).Otc_end d (le_refl _)]
  iintro ⟨HO, Hst⟩
  isplitl [HO]; · iexact HO
  iintro HO
  isplitl [HO]; · iexact HO
  iexact Hst

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hub, Hts, -⟩, Hg, Htk⟩
  ihave #Hlv := ((K (F := F)).ctx_levAts κ) $$ Hctx
  ihave Hheld := (Entails.of_eq (Pipeline.unscopedBufs_held (Ix := HIx 1) (Name := ℕ) (U := UU) (Lvl := ℕ) d (StableHlo.launchContents m d))) $$ Hub
  -- the two layouts of the scores
  iapply (StableHlo.wp_seq 𝒱 none Set.univ d (Pipeline.ucRefs τ sig) _ headOps head_bufs head_fresh (StableHlo.launchContents m d)) $$ [Hb Hheld]
  · isplitl [Hb] <;> iassumption
  iintro ⟨Hb, Hheld⟩
  ihave Hheld := (Entails.of_eq (StableHlo.held_sub_split _ scBufs_sub _)) $$ Hheld
  icases Hheld with ⟨Hsc, Hrest⟩
  ihave Hsc := (Entails.of_eq (held_scBufs d _)) $$ Hsc
  ihave Hsc := (deal d _ _ _ _) $$ Hsc
  icases Hsc with ⟨Hkept, Htasks⟩
  -- the SparseCore call
  rw [wp_bind]
  iapply ((K (F := F)).wp_run (D (F := F)) 𝒱 (EH := EH) (P := P m) κ d 0) $$ [Hst Htasks Hb Hts Hg Htk Hrest Hkept]
  isplitr; · iexact Hctx
  isplitl [Hst]; · iexact Hst
  isplitl [Htasks]; · iexact Htasks
  iintro ⟨Hst, Hdn⟩
  ihave Hsc := (gather d (scA m d) (gI (scA m d)) (gV (scA m d)) (gM (scA m d))) $$ [Hkept Hdn]
  · isplitl [Hkept]; · iexact Hkept
    iexact Hdn
  ihave Hheld := (held_V2 m d) $$ [Hsc Hrest]
  · isplitl [Hsc]; · iexact Hsc
    iexact Hrest
  ihave Hub := (Entails.of_eq (Pipeline.unscopedBufs_held (Ix := HIx 1) (Name := ℕ) (U := UU) (Lvl := ℕ) d (V2 m d)).symm) $$ Hheld
  -- the TensorCore call
  ihave Hst := (tcSt_end d) $$ Hst
  icases Hst with ⟨HO, Hst⟩
  rw [wp_bind]
  iapply (tc_call m d _)
  isplitr [Hb Hub HO Hg Htk]
  swap
  · isplitl [Hb]; · iexact Hb
    isplitl [Hub HO]
    · isplitl [Hub]; · iexact Hub
      iexact HO
    isplitr; · iexact Hlv
    isplitl [Hg] <;> iassumption
  iintro ⟨Hb, Hub, HO⟩
  ihave Hheld := (Entails.of_eq (Pipeline.unscopedBufs_held (Ix := HIx 1) (Name := ℕ) (U := UU) (Lvl := ℕ) d (V3 m d))) $$ Hub
  -- the results put together
  rw [← bind_pure (StableHlo.seq tailOps)]
  iapply (StableHlo.wp_seq 𝒱 none Set.univ d (Pipeline.ucRefs τ sig) _ tailOps tail_bufs tail_fresh (V3 m d)) $$ [Hb Hheld]
  · isplitl [Hb] <;> iassumption
  iintro ⟨Hb, Hheld⟩
  rw [wp_pure]; imodintro
  isplitl [HO Hst]; · iapply Hst; iexact HO
  isplitl [Hheld]; · iexact Hheld
  isplitl [Hb] <;> iassumption

/-! ## The run -/

/-- What the memory of device `d` holds at the end. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  unfold FIN StableHlo.held
  iintro H
  ihave H' := (pointsTo_read_all (Pipeline.ucRefs τ sig) (fun b => ((d, b) : Loc nD τ sig)) (V4 m d) s') $$ H
  icases H' with ⟨%h, -⟩
  ipureintro; exact h

/-- Every array of the TensorCore's at `V4`, every semaphore at zero. -/
def QC : PUnit × MemSt nD τ sig (Elt F) → Prop := fun r => (∀ d : Dev nD, ∀ b ∈ Pipeline.ucRefs τ sig, r.2.mem (d, b) = V4 m d b) ∧ r.2.sem = fun _ => 0

/-- The whole program runs, and ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof

end
-- ==== Proof.Spec.lean ====
/-
  The three results as plain functions of the scores, which both programs are shown to compute.
-/
module

public import proofs.«01_k».proof.Defs
public import proofs.«01_k».proof.Proof.Tree

@[expose] public section

noncomputable section

namespace Cert.Proof

open Idealize.ShloMosaic Idealize.ShloMosaic.ValueIdx

variable {F : FTy → Type} [FloatOps F]

/-- The scores of 128 rows, 2048 timesteps, 29 classes. -/
abbrev Scores (F : FTy → Type) : Type := (⟨3, ![128, 2048, 29]⟩ : Shape).Idx → F .f32

/-- An index of a result. -/
abbrev Cell : Type := (⟨2, ![128, 2048]⟩ : Shape).Idx

/-- The classes of row `b` at timestep `t`. -/
def scores (A : Scores F) (j : Cell) : ℕ → F .f32 := fun v => A (ix3 (j 0) (j 1) (Fin.ofNat 29 v))

/-- The class chosen at a cell. -/
def tagAt (A : Scores F) (j : Cell) : BitVec 32 := (tree (scores A j)).2

/-- The probability of the class chosen at a cell. -/
def topAt (A : Scores F) (j : Cell) : F .f32 := FloatOps.exp (tree (scores A j)).1

/-- The cell one timestep earlier. -/
def before (j : Cell) : Cell := ix2 (j 0) (Fin.ofNat 2048 ((j 1).val - 1))

/-- The class chosen one timestep earlier, minus one at the first timestep. -/
def prevAt (A : Scores F) (j : Cell) : BitVec 32 := if (j 1).val = 0 then 4294967295#32 else tagAt A (before j)

/-- The mask: the class is not blank and differs from the one before. -/
def maskAt (A : Scores F) (j : Cell) : BitVec 1 :=
  IntOp.andi (IntOp.cmpi .ne (tagAt A j) 0#32) (IntOp.cmpi .ne (tagAt A j) (prevAt A j))

/-- A class word names one of the 29 classes. -/
def IsClass (w : BitVec 32) : Prop := ∃ v, v < 29 ∧ w = BitVec.ofNat 32 v

theorem node_isClass {p q : Tagged F} (hp : IsClass p.2) (hq : IsClass q.2) : IsClass (node p q).2 := by
  unfold node Scalar.select
  by_cases h : FloatOps.cmpf .ogt q.1 p.1 = 1
  · simp only [h, if_true]; exact hq
  · simp only [h, if_false]; exact hp

theorem span_isClass (x : ℕ → F .f32) : ∀ n i, i + 2 ^ n ≤ 29 → IsClass (span x n i).2
  | 0, i, h => ⟨i, by simp at h; omega, rfl⟩
  | n + 1, i, h => by
    have e : 2 ^ (n + 1) = 2 ^ n + 2 ^ n := by ring
    have e1 : 0 < 2 ^ n := Nat.two_pow_pos n
    exact node_isClass (span_isClass x n i (by omega)) (span_isClass x n (i + 2 ^ n) (by omega))

theorem tree_isClass (x : ℕ → F .f32) : IsClass (tree x).2 :=
  node_isClass (span_isClass x 4 0 (by norm_num)) (node_isClass (span_isClass x 3 16 (by norm_num))
    (node_isClass (span_isClass x 2 24 (by norm_num)) (span_isClass x 0 28 (by norm_num))))

/-- A class word is not minus one. -/
theorem IsClass.ne_neg {w : BitVec 32} (h : IsClass w) : w ≠ 4294967295#32 := by
  obtain ⟨v, hv, rfl⟩ := h
  intro e
  have := congrArg BitVec.toNat e
  rw [BitVec.toNat_ofNat, Nat.mod_eq_of_lt (by omega)] at this
  simp at this
  omega

end Cert.Proof

end
-- ==== Proof.Kern.lean ====
/-
  What the kernel's program leaves in its results, read as the plain functions of the scores.
-/
module

public import proofs.«01_k».proof.Proof.Host
public import proofs.«01_k».proof.Proof.Spec
public import Idealize.ShloMosaic.Lib.Pipeline.Value

@[expose] public section

noncomputable section

namespace Cert.Proof

open Cert.KernelIdeal Cert.KernelIdeal.Gen
open Idealize.ShloMosaic
open Idealize.ShloMosaic.ValueIdx Idealize.ShloMosaic.TcCoe Idealize.ShloMosaic.StableHlo

variable {F : FTy → Type} [FloatOps F]

/-! ## Laying the SparseCore's rows over the TensorCore's -/

/-- The SparseCore's rows `g` laid over rows 0 … 31 of `x`. -/
def laid {α : Type} (x : S128x2048.Idx → α) (g : S4x16x8x128.Idx → α) : S128x2048.Idx → α :=
  Host.dynamicUpdateSlice x
    (shapeCast S32x2048 (transpose S4x8x16x128 [0, 2, 1, 3] g transposes_S4x16x8x128_S4x8x16x128_0_2_1_3) shapeCasts_S4x8x16x128_S32x2048)
    (fun _ => 0) updateFits_S128x2048_S32x2048

/-- Where the SparseCore keeps a cell. -/
def tileIdx (j : Cell) : S4x16x8x128.Idx :=
  ix4 (Fin.ofNat 4 ((j 0).val / 8)) (Fin.ofNat 16 ((j 1).val / 128)) (Fin.ofNat 8 ((j 0).val % 8)) (Fin.ofNat 128 ((j 1).val % 128))

theorem updates_fit : S128x2048.Slices ![0, 0] S32x2048 := by decide

theorem laid_eq {α : Type} (x : S128x2048.Idx → α) (g : S4x16x8x128.Idx → α) :
    laid x g = updateSlice x (shapeCast S32x2048 (transpose S4x8x16x128 [0, 2, 1, 3] g transposes_S4x16x8x128_S4x8x16x128_0_2_1_3) shapeCasts_S4x8x16x128_S32x2048) ![0, 0] updates_fit := by
  refine Host.dynamicUpdateSlice_eq_updateSlice x _ (fun _ => 0) updateFits_S128x2048_S32x2048 ![0, 0] (fun a => ?_) updates_fit
  match a with
  | ⟨0, _⟩ => rfl
  | ⟨1, _⟩ => rfl

/-- The same at starts that are zero. -/
theorem laid_of {α : Type} (x : S128x2048.Idx → α) (g : S4x16x8x128.Idx → α) (st : Fin 2 → Int) (h0 : st 0 = 0) (h1 : st 1 = 0) :
    Host.dynamicUpdateSlice x
      (shapeCast S32x2048 (transpose S4x8x16x128 [0, 2, 1, 3] g transposes_S4x16x8x128_S4x8x16x128_0_2_1_3) shapeCasts_S4x8x16x128_S32x2048)
      st updateFits_S128x2048_S32x2048 = laid x g := by
  obtain rfl : st = fun _ => 0 := funext fun k => by
    match k with
    | ⟨0, _⟩ => exact h0
    | ⟨1, _⟩ => exact h1
  rfl

/-- From row 32 on the TensorCore's cell stays. -/
theorem laid_high {α : Type} (x : S128x2048.Idx → α) (g : S4x16x8x128.Idx → α) (j : Cell) (h : 32 ≤ (j 0).val) : laid x g j = x j := by
  rw [laid_eq]
  unfold updateSlice
  rw [dif_neg]
  intro hh
  have h0 := hh ⟨0, by decide⟩
  have : (j 0).val < 0 + 32 := h0.2
  omega

/-- Below row 32 the SparseCore's is there. -/
theorem laid_low {α : Type} (x : S128x2048.Idx → α) (g : S4x16x8x128.Idx → α) (j : Cell) (h : (j 0).val < 32) : laid x g j = g (tileIdx j) := by
  have hj : (j 1).val < 2048 := (j 1).isLt
  rw [laid_eq]
  unfold updateSlice
  rw [dif_pos (fun a => by
    match a with
    | ⟨0, _⟩ => exact ⟨Nat.zero_le _, (by show (j 0).val < 0 + 32; omega)⟩
    | ⟨1, _⟩ => exact ⟨Nat.zero_le _, (by show (j 1).val < 0 + 2048; omega)⟩)]
  refine (shapeCast_apply _ _ _ (ix4 (Fin.ofNat 4 ((j 0).val / 8)) (Fin.ofNat 8 ((j 0).val % 8)) (Fin.ofNat 16 ((j 1).val / 128)) (Fin.ofNat 128 ((j 1).val % 128))) ?_).trans ?_
  · rw [Shape.rowMajor_val_four, Shape.rowMajor_val_two]
    show (((((j 0).val / 8) % 4) * 8 + ((j 0).val % 8) % 8) * 16 + ((j 1).val / 128) % 16) * 128 + ((j 1).val % 128) % 128 = ((j 0).val - 0) * 2048 + ((j 1).val - 0)
    omega
  · refine transpose_apply _ _ _ _ (tileIdx j) fun b => ?_
    match b with
    | ⟨0, _⟩ => rfl
    | ⟨1, _⟩ => rfl
    | ⟨2, _⟩ => rfl
    | ⟨3, _⟩ => rfl

/-! ## The tail's results -/

variable (V : Valuation τ sig (Elt F))

theorem tail_arg0 : after tailOps V (Proc.devRef .tc main_arg0) = V (Proc.devRef .tc main_arg0) := by
  unfold tailOps; after_results

theorem tail_v7 : after tailOps V (Proc.devRef .tc main_v7) = laid (V (Proc.devRef .tc main_v4_0)) (V (Proc.devRef .tc main_v3_0)) := by
  unfold tailOps; after_results
  exact laid_of _ _ _ rfl rfl

theorem tail_v13 : after tailOps V (Proc.devRef .tc main_v13) = laid (V (Proc.devRef .tc main_v4_2)) (V (Proc.devRef .tc main_v3_2)) := by
  unfold tailOps; after_results
  exact laid_of _ _ _ rfl rfl

theorem tail_v16 : after tailOps V (Proc.devRef .tc main_v16) =
    cmpi .ne (laid (V (Proc.devRef .tc main_v4_1)) (V (Proc.devRef .tc main_v3_1))) (broadcastInDim S128x2048 ![] bcast_S_S128x2048 (constantI S_ 32 0#32)) := by
  unfold tailOps; after_results
  exact congrArg (fun z => cmpi .ne z _) (laid_of _ _ _ rfl rfl)

/-! ## The head's layouts -/

theorem head_arg0 : after headOps V (Proc.devRef .tc main_arg0) = V (Proc.devRef .tc main_arg0) := by
  unfold headOps; after_results

theorem head_v1 : after headOps V (Proc.devRef .tc main_v1) =
    transpose S29x16x16x8x128 [4, 0, 2, 1, 3] (shapeCast S16x8x16x128x29 (V (Proc.devRef .tc main_arg0)) shapeCasts_S128x2048x29_S16x8x16x128x29) transposes_S16x8x16x128x29_S29x16x16x8x128_4_0_2_1_3 := by
  unfold headOps; after_results; rfl

theorem head_v2 : after headOps V (Proc.devRef .tc main_v2) =
    transpose S29x128x2048 [2, 0, 1] (V (Proc.devRef .tc main_arg0)) transposes_S128x2048x29_S29x128x2048_2_0_1 := by
  unfold headOps; after_results

/-! ## The scores in the two layouts -/

variable (m : (ℓ : Loc nD τ sig) → Buf (Elt F) ℓ) (d : Dev nD)

/-- The scores at launch. -/
abbrev arg : Scores F := StableHlo.launchContents m d (Proc.devRef .tc main_arg0)

/-- A row of five coordinates as the SparseCore holds the scores. -/
theorem scA_apply (v : Fin 29) (bt : Fin 16) (r : Fin 16) (bs : Fin 8) (l : Fin 128) :
    (scA m d : S29x16x16x8x128.Idx → F .f32) (ix5 v bt r bs l)
      = arg m d (ix3 (⟨bt.val * 8 + bs.val, by omega⟩ : Fin 128) (⟨r.val * 128 + l.val, by omega⟩ : Fin 2048) v) := by
  refine (congrFun (head_v1 (StableHlo.launchContents m d)) _).trans ?_
  refine (transpose_apply _ _ _ _ (ix5 bt bs r l v) fun b => ?_).trans ?_
  · match b with
    | ⟨0, _⟩ => rfl
    | ⟨1, _⟩ => rfl
    | ⟨2, _⟩ => rfl
    | ⟨3, _⟩ => rfl
    | ⟨4, _⟩ => rfl
  · refine shapeCast_apply _ _ _ _ ?_
    rw [Shape.rowMajor_val_five]
    refine (Shape.rowMajor_val_three (d := ![128, 2048, 29]) _).trans ?_
    show ((bt.val * 8 + bs.val) * 2048 + (r.val * 128 + l.val)) * 29 + v.val = (((bt.val * 8 + bs.val) * 16 + r.val) * 128 + l.val) * 29 + v.val
    omega

/-- The scores as the TensorCore reads them. -/
theorem scs_apply (v : Fin 29) (b : Fin 128) (t : Fin 2048) :
    (scs (V2 m) d : S29x128x2048.Idx → F .f32) (ix3 v b t) = arg m d (ix3 b t v) := by
  refine (congrFun (V2_ne m d _ (devRef_ne (by decide)) (devRef_ne (by decide)) (devRef_ne (by decide))) _).trans ?_
  refine (congrFun (head_v2 (StableHlo.launchContents m d)) _).trans ?_
  refine transpose_apply _ _ _ _ _ fun b => ?_
  match b with
  | ⟨0, _⟩ => rfl
  | ⟨1, _⟩ => rfl
  | ⟨2, _⟩ => rfl

/-! ## The SparseCore's rows -/

/-- The tree of a SparseCore row at a timestep is the tree of that row's scores. -/
theorem classes_tree (a : Fin 4) (bs : Fin 8) (r : Fin 16) (l : Fin 128) :
    tree (classes (rowOf (scA m d) (Fin.castLE (by decide) a) bs) r l)
      = tree (scores (arg m d) (ix2 (⟨a.val * 8 + bs.val, by omega⟩ : Fin 128) (⟨r.val * 128 + l.val, by omega⟩ : Fin 2048))) :=
  tree_congr fun v _ => scA_apply m d (Fin.ofNat 29 v) (Fin.castLE (by decide) a) r bs l

/-- The row a cell below row 32 is in. -/
abbrev rowAtCell (j : Cell) : RowLp F := rowOf (scA m d) (Fin.castLE (by decide) (tileIdx j 0)) (tileIdx j 2)

/-- The tree at timestep `p` of a cell's row. -/
theorem row_tree (j : Cell) (h : (j 0).val < 32) (y : S16x128.Idx) (p : Fin 2048) (hp : pos y = p.val) :
    tree (classes (rowAtCell m d j) (y 0) (y 1)) = tree (scores (arg m d) (ix2 (j 0) p)) := by
  refine (classes_tree m d (tileIdx j 0) (tileIdx j 2) (y 0) (y 1)).trans ?_
  refine congrArg (fun i => tree (scores (arg m d) i)) ?_
  refine congrArg₂ (ix2 (n0 := 128) (n1 := 2048)) (Fin.ext ?_) (Fin.ext hp)
  show ((j 0).val / 8) % 4 * 8 + ((j 0).val % 8) % 8 = (j 0).val
  omega

/-- The index within the row. -/
abbrev inRow (j : Cell) : S16x128.Idx := ix2 (tileIdx j 1) (tileIdx j 3)

theorem pos_inRow (j : Cell) : pos (inRow j) = (j 1).val := by
  have hj : (j 1).val < 2048 := (j 1).isLt
  show ((j 1).val / 128) % 16 * 128 + ((j 1).val % 128) % 128 = (j 1).val
  omega

theorem low_tag (j : Cell) (h : (j 0).val < 32) : gI (scA m d) (tileIdx j) = tagAt (arg m d) j := by
  show (tree (classes (rowAtCell m d j) (inRow j 0) (inRow j 1))).2 = _
  rw [row_tree m d j h (inRow j) (j 1) (pos_inRow j)]
  rfl

theorem low_top (j : Cell) (h : (j 0).val < 32) : gM (scA m d) (tileIdx j) = topAt (arg m d) j := by
  show FloatOps.exp (tree (classes (rowAtCell m d j) (inRow j 0) (inRow j 1))).1 = _
  rw [row_tree m d j h (inRow j) (j 1) (pos_inRow j)]
  rfl

/-- The class at the timestep before, in a row below 32. -/
theorem low_before (j : Cell) (h : (j 0).val < 32) :
    idxAtRow (rowAtCell m d j) (atPos (pos (inRow j) - 1)) = tagAt (arg m d) (before j) := by
  have hj : (j 1).val < 2048 := (j 1).isLt
  show (tree (classes (rowAtCell m d j) (atPos (pos (inRow j) - 1) 0) (atPos (pos (inRow j) - 1) 1))).2 = _
  rw [row_tree m d j h (atPos (pos (inRow j) - 1)) (Fin.ofNat 2048 ((j 1).val - 1)) (by
    rw [pos_inRow, pos_atPos (by omega)]
    exact (Nat.mod_eq_of_lt (by omega)).symm)]
  rfl

/-! ## The mask word's test -/

/-- A flag widened to a word is not zero exactly when it is set. -/
theorem test_flag (b : BitVec 1) : IntOp.cmpi .ne (Scalar.extui b : BitVec 32) 0#32 = b := by
  revert b; decide

/-- The SparseCore's flag is the mask. -/
theorem keep_mask (A : Scores F) (j : Cell) :
    IntOp.cmpi .ne (keep (tagAt A j) (tagAt A (before j)) (BitVec.ofNat 32 (j 1).val)) 0#32 = maskAt A j := by
  have hj : (j 1).val < 2048 := (j 1).isLt
  unfold keep
  rw [test_flag]
  unfold maskAt prevAt
  refine congrArg (IntOp.andi (IntOp.cmpi .ne (tagAt A j) 0#32)) ?_
  by_cases h : (j 1).val = 0
  · rw [if_pos h, h]
    have e : IntOp.cmpi .ne (tagAt A j) 4294967295#32 = 1#1 := by
      have hne : tagAt A j ≠ 4294967295#32 := (tree_isClass (scores A j)).ne_neg
      show BitVec.ofBool (tagAt A j != 4294967295#32) = 1#1
      rw [bne_iff_ne.2 hne]; rfl
    rw [e]
    generalize Scalar.cmpi .ne (tagAt A j) (tagAt A (before j)) = b
    revert b; decide
  · rw [if_neg h]
    have e : Scalar.cmpi .eq (BitVec.ofNat 32 (j 1).val) 0#32 = 0#1 := by
      show BitVec.ofBool (BitVec.ofNat 32 (j 1).val == 0#32) = 0#1
      have hne : BitVec.ofNat 32 (j 1).val ≠ 0#32 := fun e => h (by
        have := congrArg BitVec.toNat e
        rwa [BitVec.toNat_ofNat, Nat.mod_eq_of_lt (by omega)] at this)
      rw [beq_eq_false_iff_ne.2 hne]; rfl
    rw [e]
    show Scalar.ori (Scalar.cmpi .ne (tagAt A j) (tagAt A (before j))) 0#1 = Scalar.cmpi .ne (tagAt A j) (tagAt A (before j))
    generalize Scalar.cmpi .ne (tagAt A j) (tagAt A (before j)) = b
    revert b; decide

theorem low_mask (j : Cell) (h : (j 0).val < 32) : IntOp.cmpi .ne (gV (scA m d) (tileIdx j)) 0#32 = maskAt (arg m d) j := by
  rw [← keep_mask]
  refine congrArg (fun w => IntOp.cmpi .ne w 0#32) ?_
  show keep (gI (scA m d) (tileIdx j)) (idxAtRow (rowAtCell m d j) (atPos (pos (inRow j) - 1))) (BitVec.ofNat 32 (pos (inRow j))) = _
  rw [low_tag m d j h, low_before m d j h, pos_inRow]

/-! ## The TensorCore's rows -/

theorem scs_tree (j : Cell) : (tree fun v => scs (V2 m) d (ix3 (Fin.ofNat 29 v) (j 0) (j 1))) = tree (scores (arg m d) j) :=
  tree_congr fun v _ => scs_apply m d (Fin.ofNat 29 v) (j 0) (j 1)

theorem tcI_tag (j : Cell) : tcI (scs (V2 m) d) j = tagAt (arg m d) j := congrArg Prod.snd (scs_tree m d j)

theorem high_mask (j : Cell) : IntOp.cmpi .ne (tcV (scs (V2 m) d) j) 0#32 = maskAt (arg m d) j := by
  unfold tcV
  rw [test_flag]
  unfold tcPrev maskAt prevAt
  rw [tcI_tag, tcI_tag]
  rfl

/-! ## The results -/

theorem V4_arg0 : V4 m d (Proc.devRef .tc main_arg0) = m (d, Proc.devRef .tc main_arg0) := by
  refine (tail_arg0 (V3 m d)).trans ?_
  rw [V3_ne m d _ (devRef_ne (by decide)) (devRef_ne (by decide)) (devRef_ne (by decide)),
    V2_ne m d _ (devRef_ne (by decide)) (devRef_ne (by decide)) (devRef_ne (by decide))]
  exact head_arg0 _

/-- What a result of the SparseCore still holds after the TensorCore call. -/
theorem V3_of_V2 (b : Ref sig .tc) (h0 : b ≠ main_v4_0) (h1 : b ≠ main_v4_1) (h2 : b ≠ main_v4_2) :
    V3 m d (Proc.devRef .tc b) = V2 m d (Proc.devRef .tc b) :=
  V3_ne m d _ (devRef_ne h0) (devRef_ne h1) (devRef_ne h2)

/-- The first result: the chosen classes. -/
theorem V4_tag : V4 m d (Proc.devRef .tc main_v7) = tagAt (arg m d) := by
  refine (tail_v7 (V3 m d)).trans ?_
  rw [V3_i, V3_of_V2 m d main_v3_0 (by decide) (by decide) (by decide), V2_i]
  funext j
  by_cases h : (j 0).val < 32
  · exact (laid_low _ _ j h).trans (low_tag m d j h)
  · exact (laid_high _ _ j (not_lt.1 h)).trans ((outI_apply (V2 m) d j (not_lt.1 h)).trans (tcI_tag m d j))

/-- The third result: their probabilities. -/
theorem V4_top : V4 m d (Proc.devRef .tc main_v13) = topAt (arg m d) := by
  refine (tail_v13 (V3 m d)).trans ?_
  rw [V3_m, V3_of_V2 m d main_v3_2 (by decide) (by decide) (by decide), V2_m]
  funext j
  by_cases h : (j 0).val < 32
  · exact (laid_low _ _ j h).trans (low_top m d j h)
  · exact (laid_high _ _ j (not_lt.1 h)).trans ((outM_apply (V2 m) d j (not_lt.1 h)).trans
      (congrArg (fun z : Tagged F => FloatOps.exp z.1) (scs_tree m d j)))

/-- The mask's test of the words laid, cell by cell. -/
theorem test_laid (x : S128x2048.Idx → BitVec 32) (g : S4x16x8x128.Idx → BitVec 32) (j : Cell) :
    cmpi .ne (laid x g) (broadcastInDim S128x2048 ![] bcast_S_S128x2048 (constantI S_ 32 0#32)) j = IntOp.cmpi .ne (laid x g j) 0#32 := rfl

/-- The second result: the mask. -/
theorem V4_mask : V4 m d (Proc.devRef .tc main_v16) = maskAt (arg m d) := by
  refine (tail_v16 (V3 m d)).trans ?_
  rw [V3_v, V3_of_V2 m d main_v3_1 (by decide) (by decide) (by decide), V2_v]
  funext j
  refine (test_laid _ _ j).trans ?_
  by_cases h : (j 0).val < 32
  · exact (congrArg (fun w => IntOp.cmpi .ne w 0#32) (laid_low _ _ j h)).trans (low_mask m d j h)
  · exact (congrArg (fun w => IntOp.cmpi .ne w 0#32) ((laid_high _ _ j (not_lt.1 h)).trans (outV_apply (V2 m) d j (not_lt.1 h)))).trans
      (high_mask m d j)

end Cert.Proof

end
-- ==== Proof.Order.lean ====
/-
  The tree over the extended reals: it finds the greatest class with the first position that holds it, and a left fold of the
  reference's arg-max body over the same pairs finds the same.
-/
module

public import proofs.«01_k».proof.Defs
public import proofs.«01_k».proof.Proof.Tree

@[expose] public section

noncomputable section

namespace Cert.Proof

open Idealize.ShloMosaic

/-- `p` is the greatest of `x lo, …, x (hi - 1)` with the first class that holds it. -/
def BestOn (x : ℕ → EReal) (lo hi : ℕ) (p : EReal × BitVec 32) : Prop :=
  ∃ i, lo ≤ i ∧ i < hi ∧ p = (x i, BitVec.ofNat 32 i) ∧ (∀ v, lo ≤ v → v < hi → x v ≤ x i) ∧ ∀ v, lo ≤ v → v < i → x v < x i

/-- A node over the extended reals, by cases on the strict order. -/
theorem node_ideal (p q : Tagged Ideal) : node p q = if (show EReal from p.1) < q.1 then q else p := by
  obtain ⟨a, b⟩ := p
  obtain ⟨c, d⟩ := q
  show ((if Ideal.cmp .ogt c a = 1 then c else a, if Ideal.cmp .ogt c a = 1 then d else b) : EReal × BitVec 32) = if (show EReal from a) < c then (c, d) else (a, b)
  have e : Ideal.cmp .ogt c a = BitVec.ofBool (decide ((show EReal from a) < c)) := rfl
  rw [e]
  by_cases h : (show EReal from a) < c
  · simp only [h, decide_true, if_true]; rfl
  · simp only [h, decide_false, if_false]; rfl

/-- A node joins the best of two neighbouring ranges. -/
theorem BestOn.node {x : ℕ → EReal} {lo mid hi : ℕ} {p q : Tagged Ideal} (hp : BestOn x lo mid p) (hq : BestOn x mid hi q) :
    BestOn x lo hi (node p q) := by
  obtain ⟨i, hi1, hi2, rfl, hi3, hi4⟩ := hp
  obtain ⟨k, hk1, hk2, rfl, hk3, hk4⟩ := hq
  rw [node_ideal]
  by_cases h : x i < x k
  · rw [if_pos h]
    refine ⟨k, by omega, hk2, rfl, fun v h1 h2 => ?_, fun v h1 h2 => ?_⟩
    · rcases lt_or_ge v mid with hv | hv
      · exact (hi3 v h1 hv).trans h.le
      · exact hk3 v hv h2
    · rcases lt_or_ge v mid with hv | hv
      · exact (hi3 v h1 hv).trans_lt h
      · exact hk4 v hv h2
  · rw [if_neg h]
    refine ⟨i, hi1, by omega, rfl, fun v h1 h2 => ?_, hi4⟩
    rcases lt_or_ge v mid with hv | hv
    · exact hi3 v h1 hv
    · exact (hk3 v hv h2).trans (not_lt.1 h)

/-- A complete tree finds the best of its classes. -/
theorem span_best (x : ℕ → EReal) : ∀ n i, BestOn x i (i + 2 ^ n) (span (F := Ideal) x n i)
  | 0, i => ⟨i, le_refl _, by simp, rfl, fun v h1 h2 => by rw [show v = i by simp at h2; omega], fun v h1 h2 => by omega⟩
  | n + 1, i => by
    have e : i + 2 ^ (n + 1) = i + 2 ^ n + 2 ^ n := by ring
    rw [e]
    exact (span_best x n i).node (span_best x n (i + 2 ^ n))

/-- The kernel's tree finds the best of the 29 classes. -/
theorem tree_best (x : ℕ → EReal) : BestOn x 0 29 (tree (F := Ideal) x) :=
  (span_best x 4 0).node ((span_best x 3 16).node ((span_best x 2 24).node (span_best x 0 28)))

/-- There is one best only. -/
theorem BestOn.unique {x : ℕ → EReal} {lo hi : ℕ} {p q : EReal × BitVec 32} (hp : BestOn x lo hi p) (hq : BestOn x lo hi q) : p = q := by
  obtain ⟨i, hi1, hi2, rfl, hi3, hi4⟩ := hp
  obtain ⟨k, hk1, hk2, rfl, hk3, hk4⟩ := hq
  rcases lt_trichotomy i k with h | h | h
  · exact absurd (hk4 i hi1 h) (not_lt.2 (hi3 k hk1 hk2))
  · rw [h]
  · exact absurd (hi4 k hk1 h) (not_lt.2 (hk3 i hi1 hi2))

/-- The exponential is strictly monotone on the extended reals. -/
theorem exp_strict : StrictMono Ideal.exp := by
  intro a b h
  induction a using EReal.rec with
  | bot =>
    induction b using EReal.rec with
    | bot => exact absurd h (lt_irrefl _)
    | coe r => rw [Ideal.exp_bot, Ideal.exp_coe]; exact EReal.coe_pos.2 (Real.exp_pos r)
    | top => rw [Ideal.exp_bot, Ideal.exp_top]; exact EReal.zero_lt_top
  | coe r =>
    induction b using EReal.rec with
    | bot => exact absurd h (not_lt.2 bot_le)
    | coe s => rw [Ideal.exp_coe, Ideal.exp_coe]; exact EReal.coe_lt_coe_iff.2 (Real.exp_lt_exp.2 (EReal.coe_lt_coe_iff.1 h))
    | top => rw [Ideal.exp_coe, Ideal.exp_top]; exact EReal.coe_lt_top _
  | top => exact absurd h (not_lt.2 le_top)

/-- The best of the classes is at the same place as the best of their exponentials. -/
theorem BestOn.exp {x : ℕ → EReal} {lo hi : ℕ} {p : EReal × BitVec 32} (h : BestOn x lo hi p) :
    BestOn (fun v => Ideal.exp (x v)) lo hi (Ideal.exp p.1, p.2) := by
  obtain ⟨i, h1, h2, rfl, h3, h4⟩ := h
  exact ⟨i, h1, h2, rfl, fun v a b => exp_strict.monotone (h3 v a b), fun v a b => exp_strict (h4 v a b)⟩

/-- The tree of the classes, its value under the exponential, is the best of the exponentials. -/
theorem tree_exp_best (x : ℕ → EReal) :
    BestOn (fun v => Ideal.exp (x v)) 0 29 (Ideal.exp (tree (F := Ideal) x).1, (tree (F := Ideal) x).2) :=
  (tree_best x).exp

/-! ## The reference's arg-max body -/

/-- The reference's body over the extended reals: the greater value, and of equal ones the smaller class. -/
def pick (a b : EReal × BitVec 32) : EReal × BitVec 32 :=
  if b.1 < a.1 ∨ (a.1 = b.1 ∧ a.2.slt b.2 = true) then a else (b.1, b.2)

/-- A pair `q` is at least as good as `p`: greater, or equal at a class no later. -/
def Beats (q p : EReal × BitVec 32) : Prop := p.1 < q.1 ∨ (p.1 = q.1 ∧ q.2.toInt ≤ p.2.toInt)

theorem Beats.refl (p : EReal × BitVec 32) : Beats p p := Or.inr ⟨rfl, le_refl _⟩

theorem Beats.trans {a b c : EReal × BitVec 32} (h : Beats a b) (k : Beats b c) : Beats a c := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

theorem pick_mem (a b : EReal × BitVec 32) : pick a b = a ∨ pick a b = b := by
  unfold pick; split
  · exact Or.inl rfl
  · exact Or.inr rfl

theorem pick_beats (a b : EReal × BitVec 32) : Beats (pick a b) a ∧ Beats (pick a b) b := by
  unfold pick
  split
  · rename_i h
    refine ⟨Beats.refl _, ?_⟩
    rcases h with h | ⟨h, k⟩
    · exact Or.inl h
    · exact Or.inr ⟨h.symm, (BitVec.slt_iff_toInt_lt.1 k).le⟩
  · rename_i h
    rw [not_or, not_and] at h
    refine ⟨?_, Beats.refl _⟩
    rcases lt_or_eq_of_le (not_lt.1 h.1) with k | k
    · exact Or.inl k
    · exact Or.inr ⟨k, not_lt.1 fun hh => h.2 k (BitVec.slt_iff_toInt_lt.2 hh)⟩

/-- A left fold of the body is one of the pairs or the initial one, and beats them all. -/
theorem foldl_pick (l : List (EReal × BitVec 32)) : ∀ a, (l.foldl pick a = a ∨ l.foldl pick a ∈ l) ∧ Beats (l.foldl pick a) a
    ∧ ∀ p ∈ l, Beats (l.foldl pick a) p := by
  induction l with
  | nil => intro a; exact ⟨Or.inl rfl, Beats.refl _, fun p hp => by simp at hp⟩
  | cons b l ih =>
    intro a
    obtain ⟨h1, h2, h3⟩ := ih (pick a b)
    rw [List.foldl_cons]
    refine ⟨?_, h2.trans (pick_beats a b).1, fun p hp => ?_⟩
    · rcases h1 with h1 | h1
      · rw [h1]
        rcases pick_mem a b with h | h
        · exact Or.inl h
        · rw [h]; exact Or.inr (List.mem_cons_self ..)
      · exact Or.inr (List.mem_cons_of_mem _ h1)
    · rcases List.mem_cons.1 hp with rfl | hp
      · exact h2.trans (pick_beats a p).2
      · exact h3 p hp

theorem toInt_ofNat {i : ℕ} (h : i < 29) : (BitVec.ofNat 32 i).toInt = i := by
  rw [BitVec.toInt_ofNat']; simp only [Nat.reducePow]
  rw [Int.bmod_eq_of_le] <;> omega

/-- Over the pairs of the 29 classes, in any order, from the least value at class 0, the fold finds the best. -/
theorem foldl_best (x : ℕ → EReal) (l : List (EReal × BitVec 32)) (hl : ∀ p, p ∈ l ↔ ∃ i, i < 29 ∧ p = (x i, BitVec.ofNat 32 i)) :
    BestOn x 0 29 (l.foldl pick (⊥, 0#32)) := by
  obtain ⟨h1, -, h3⟩ := foldl_pick l (⊥, 0#32)
  have key : ∃ i, i < 29 ∧ l.foldl pick (⊥, 0#32) = (x i, BitVec.ofNat 32 i) := by
    rcases h1 with h1 | h1
    · refine ⟨0, by omega, ?_⟩
      have h := h3 (x 0, BitVec.ofNat 32 0) ((hl _).2 ⟨0, by omega, rfl⟩)
      rw [h1] at h ⊢
      have h0 : x 0 = ⊥ := by
        rcases h with h | ⟨h, -⟩
        · exact absurd h (not_lt.2 bot_le)
        · exact h
      rw [h0]
    · exact (hl _).1 h1
  obtain ⟨i, hi, e⟩ := key
  refine ⟨i, Nat.zero_le _, hi, e, fun v _ hv => ?_, fun v _ hv => ?_⟩
  · have h := h3 _ ((hl _).2 ⟨v, hv, rfl⟩)
    rw [e] at h
    rcases h with h | ⟨h, -⟩
    · exact h.le
    · exact h.le
  · have h := h3 _ ((hl _).2 ⟨v, by omega, rfl⟩)
    rw [e] at h
    rcases h with h | ⟨h, k⟩
    · exact h
    · exfalso
      have k' : (BitVec.ofNat 32 i).toInt ≤ (BitVec.ofNat 32 v).toInt := k
      rw [toInt_ofNat hi, toInt_ofNat (by omega)] at k'
      omega

/-- The same from an initial pair that is the least value at class 0. -/
theorem foldl_best_from (x : ℕ → EReal) (l : List (EReal × BitVec 32)) (a : EReal × BitVec 32) (ha : a = (⊥, 0#32))
    (hl : ∀ p, p ∈ l ↔ ∃ i, i < 29 ∧ p = (x i, BitVec.ofNat 32 i)) : BestOn x 0 29 (l.foldl pick a) := by
  subst ha; exact foldl_best x l hl

/-- The greatest of the 29 values, as a fold of the maximum from the least value, is the value of the best. -/
theorem fold_max_best {x : ℕ → EReal} {p : EReal × BitVec 32} (h : BestOn x 0 29 p) {ι : Type} [Fintype ι] (f : ι → EReal)
    (hf : ∀ e, (∃ k, f k = e) ↔ ∃ i, i < 29 ∧ x i = e) : (Finset.univ.fold max ⊥ f : EReal) = p.1 := by
  obtain ⟨i, -, hi, rfl, h3, -⟩ := h
  apply le_antisymm
  · rw [Finset.fold_max_le]
    refine ⟨bot_le, fun k _ => ?_⟩
    obtain ⟨v, hv, e⟩ := (hf (f k)).1 ⟨k, rfl⟩
    rw [← e]; exact h3 v (Nat.zero_le _) hv
  · rw [Finset.le_fold_max]
    obtain ⟨k, e⟩ := (hf (x i)).2 ⟨i, hi, rfl⟩
    exact Or.inr ⟨k, Finset.mem_univ _, e.ge⟩

end Cert.Proof

end
-- ==== Proof.Ref.lean ====
/-
  The reference's run and its three results: the plain greedy decode over the extended reals.
-/
module

public import proofs.«01_k».proof.Defs
public import proofs.«01_k».proof.Proof.Order
public import proofs.«01_k».proof.Proof.Spec
public import proofs.«01_k».proof.Proof.Gen.ReferenceIdeal
public import Idealize.ShloMosaic.Lib.StableHlo.Run
public import Idealize.ShloMosaic.Lib.Pipeline.Value
public import Idealize.ShloMosaic.Lib.Quiescent
public import Idealize.ShloMosaic.PureOps.Ideal.Laws

@[expose] public section

noncomputable section

namespace Cert.Proof.R

open Idealize.ShloMosaic Idealize.ShloMosaic.TcCoe Idealize.ShloMosaic.StableHlo Idealize.ShloMosaic.ValueIdx Idealize.SL.Sem
open Cert.ReferenceIdeal Cert.ReferenceIdeal.Gen Cert.Proof

variable {F : FTy → Type} [FloatOps F]

/-- The reference's host operations in order, the arg-max's among them. -/
abbrev ops : List (HloOp τ sig (Elt F)) :=
  [ unary main_arg0 main_v0 Host.exp,
    TRef.nullary main_call0.v0 (iotaInDim S128x2048x29 32 2),
    TRef.nullary main_call0.cst (constant S_ .f32 0xFF800000#32),
    TRef.nullary main_call0.c (constantI S_ 32 0#32),
    TRef.quaternary (.of main_v0) main_call0.v0 main_call0.cst main_call0.c main_call0.v1_0
      (fun x y u v j => (Host.argReduce reducer_argmax_f32_i32 x y u v reducesTo_S128x2048x29_S128x2048_d2 h_S_ j).1),
    TRef.quaternary (.of main_v0) main_call0.v0 main_call0.cst main_call0.c main_call0.v1_1
      (fun x y u v j => (Host.argReduce reducer_argmax_f32_i32 x y u v reducesTo_S128x2048x29_S128x2048_d2 h_S_ j).2),
    nullary main_c (constantI S_ 32 4294967295#32),
    unary main_c main_v2 (broadcastInDim S128x1 ![] bcast_S_S128x1),
    unary main_v1 main_v3 (extractStridedSlice S128x2047 ![0, 0] · slices_S128x2048_S128x2047_0_0),
    binary main_v2 main_v3 main_v4 (fun a b => concatenate S128x2048 1 [⟨S128x1, a⟩, ⟨S128x2047, b⟩] concatenates_S128x1_S128x2047_S128x2048_d1),
    nullary main_c_0 (constantI S_ 32 0#32),
    unary main_c_0 main_v5 (broadcastInDim S128x2048 ![] bcast_S_S128x2048),
    binary main_v1 main_v5 main_v6 (cmpi .ne),
    binary main_v1 main_v4 main_v7 (cmpi .ne),
    binary main_v6 main_v7 main_v8 andi,
    nullary main_cst (constant S_ .f32 0xFF800000#32),
    binary main_v0 main_cst main_v9 (fun x v => Host.reduce FloatOps.maximumf x v reducesTo_S128x2048x29_S128x2048_d2 h_S_) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., nullary_bufs_sub .., nullary_bufs_sub .., quaternary_bufs_sub .., quaternary_bufs_sub ..,
    nullary_bufs_sub .., unary_bufs_sub .., unary_bufs_sub .., binary_bufs_sub .., nullary_bufs_sub .., unary_bufs_sub ..,
    binary_bufs_sub .., binary_bufs_sub .., binary_bufs_sub .., nullary_bufs_sub .., binary_bufs_sub ..⟩

/-- The reference runs to completion, each buffer what its operations leave in it. -/
theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq Cert.ReferenceIdeal.defs main (fun _ => ops) main_eq (fun _ => ops_sub) m ρ

/-! ## The buffers after the run -/

/-- The pairs the arg-max reduces to. -/
def pairs (A : Scores F) : Cell → F .f32 × BitVec 32 :=
  Host.argReduce (F := F) (φ := .f32) reducer_argmax_f32_i32 (Host.exp (F := F) (φ := .f32) A) (iotaInDim S128x2048x29 32 2)
    (constant (F := F) S_ .f32 0xFF800000#32) (constantI S_ 32 0#32) reducesTo_S128x2048x29_S128x2048_d2 h_S_

variable (V : Valuation τ sig (Elt F))

theorem arg0_eq : after ops V (main_arg0 : DevRef τ sig) = V (main_arg0 : DevRef τ sig) := by
  simp only [after_cons, after_nil]; rfl

theorem v1_eq : after ops V (main_v1 : DevRef τ sig) = fun j => (pairs (V (main_arg0 : DevRef τ sig)) j).2 := by
  after_results
  rfl

theorem v9_eq : after ops V (main_v9 : DevRef τ sig) = Host.reduce FloatOps.maximumf (Host.exp (F := F) (φ := .f32) (V (main_arg0 : DevRef τ sig)))
    (constant (F := F) S_ .f32 0xFF800000#32) reducesTo_S128x2048x29_S128x2048_d2 h_S_ := by
  after_results

theorem v8_eq : after ops V (main_v8 : DevRef τ sig) =
    andi (cmpi .ne (fun j => (pairs (V (main_arg0 : DevRef τ sig)) j).2) (broadcastInDim S128x2048 ![] bcast_S_S128x2048 (constantI S_ 32 0#32)))
      (cmpi .ne (fun j => (pairs (V (main_arg0 : DevRef τ sig)) j).2)
        (concatenate S128x2048 1 [⟨S128x1, broadcastInDim S128x1 ![] bcast_S_S128x1 (constantI S_ 32 4294967295#32)⟩,
          ⟨S128x2047, extractStridedSlice S128x2047 ![0, 0] (fun j => (pairs (V (main_arg0 : DevRef τ sig)) j).2) slices_S128x2048_S128x2047_0_0⟩]
          concatenates_S128x1_S128x2047_S128x2048_d1)) := by
  after_results
  rfl

/-! ## Their values over the extended reals -/

/-- The reduction's facts in the form that names a source index by its dropped coordinate. -/
theorem red : S128x2048x29.Reduces [2] S128x2048 := by decide

/-- The index of a row, timestep and class. -/
theorem lift_eq (j : Cell) (k : Fin 29) : red.lift j k = ix3 (j 0) (j 1) k := by
  funext c
  apply Fin.ext
  refine (Shape.Reduces.lift_val red j k c).trans ?_
  match c with
  | ⟨0, _⟩ => rfl
  | ⟨1, _⟩ => rfl
  | ⟨2, _⟩ => rfl

theorem ofBits_low : (FloatOps.ofBits .f32 0xFF800000#32 : Ideal .f32) = (⊥ : EReal) := by
  simp [Ideal.ofBits_def, Ideal.ofBits, Ideal.ieee]

/-- The reference's body is the pick. -/
theorem body_eq : (reducer_argmax_f32_i32 (F := Ideal)) = pick := by
  funext a b
  obtain ⟨a1, a2⟩ := a
  obtain ⟨b1, b2⟩ := b
  have e1 : (FloatOps.cmpf (F := Ideal) (φ := .f32) .ogt a1 b1) = BitVec.ofBool (decide ((show EReal from b1) < a1)) := rfl
  have e2 : (FloatOps.cmpf (F := Ideal) (φ := .f32) .une a1 a1) = BitVec.ofBool (decide ((show EReal from a1) ≠ a1)) := rfl
  have e3 : (FloatOps.cmpf (F := Ideal) (φ := .f32) .oeq a1 b1) = BitVec.ofBool (decide ((show EReal from a1) = b1)) := rfl
  have e4 : IntOp.cmpi .slt a2 b2 = BitVec.ofBool (a2.slt b2) := rfl
  unfold reducer_argmax_f32_i32 pick
  simp only [e1, e2, e3, e4, ne_eq, not_true, decide_false]
  unfold IntOp.ori IntOp.andi Scalar.select
  by_cases h : (show EReal from b1) < a1
  · simp only [h, decide_true, true_or, if_true]
    cases decide ((show EReal from a1) = b1) <;> cases a2.slt b2 <;> rfl
  · by_cases h2 : (show EReal from a1) = b1
    · cases h3 : a2.slt b2
      · simp [h, h2, h3]
      · simp [h, h2, h3]
    · simp [h, h2]

/-- The pair the arg-max leaves is the best of the exponentials. -/
theorem pairs_best (A : Scores Ideal) (j : Cell) : BestOn (fun v => Ideal.exp (scores A j v)) 0 29 (pairs A j) := by
  unfold pairs
  rw [Ideal.argReduce_eq_reduce2, Host.reduce2_eq_foldl_fiber, body_eq]
  have e : ((constant (F := Ideal) S_ .f32 0xFF800000#32) (Shape.Idx.first h_S_), (constantI S_ 32 0#32) (Shape.Idx.first h_S_)) = ((⊥ : EReal), 0#32) :=
    Prod.ext ofBits_low rfl
  refine foldl_best_from _ _ _ e fun p => ?_
  unfold Host.argReduceFiber
  simp only [List.mem_map, List.mem_filter, List.mem_finRange, true_and, decide_eq_true_eq]
  constructor
  · rintro ⟨n, hn, rfl⟩
    have hk : S128x2048x29.rowMajor.symm n = ix3 (j 0) (j 1) (S128x2048x29.rowMajor.symm n 2) := by
      have h := red.lift_drop (S128x2048x29.rowMajor.symm n)
      rw [← Shape.ReducesTo.drop_eq_drop reducesTo_S128x2048x29_S128x2048_d2 red, hn] at h
      exact h.symm.trans (lift_eq j _)
    refine ⟨(S128x2048x29.rowMajor.symm n 2).val, (S128x2048x29.rowMajor.symm n 2).isLt, ?_⟩
    refine Prod.ext ?_ rfl
    show Ideal.exp (A (S128x2048x29.rowMajor.symm n)) = Ideal.exp (A (ix3 (j 0) (j 1) (Fin.ofNat 29 _)))
    refine congrArg (fun i => Ideal.exp (A i)) (hk.trans (congrArg (ix3 (j 0) (j 1)) ?_))
    exact Fin.ext (Nat.mod_eq_of_lt (S128x2048x29.rowMajor.symm n 2).isLt).symm
  · rintro ⟨i, hi, rfl⟩
    refine ⟨S128x2048x29.rowMajor (ix3 (j 0) (j 1) ⟨i, hi⟩), ?_, ?_⟩
    · rw [Equiv.symm_apply_apply]
      exact (congrArg red.drop (lift_eq j ⟨i, hi⟩)).symm.trans (red.drop_lift j _)
    · rw [Equiv.symm_apply_apply]
      refine Prod.ext ?_ rfl
      show Ideal.exp (A (ix3 (j 0) (j 1) ⟨i, hi⟩)) = Ideal.exp (A (ix3 (j 0) (j 1) (Fin.ofNat 29 i)))
      rw [show (Fin.ofNat 29 i) = ⟨i, hi⟩ from Fin.ext (Nat.mod_eq_of_lt hi)]

/-- The pair the arg-max leaves is the kernel's tree, its value under the exponential. -/
theorem pairs_eq (A : Scores Ideal) (j : Cell) : pairs A j = (Ideal.exp (tree (scores A j)).1, (tree (scores A j)).2) :=
  (pairs_best A j).unique (tree_exp_best _)

/-- The class in that pair. -/
theorem pairs_tag (A : Scores Ideal) (j : Cell) : (pairs A j).2 = tagAt A j := by
  rw [pairs_eq]; rfl

/-- The reference's maximum is the chosen class's probability. -/
theorem max_eq (A : Scores Ideal) :
    Host.reduce FloatOps.maximumf (Host.exp (F := Ideal) (φ := .f32) A) (constant (F := Ideal) S_ .f32 0xFF800000#32)
      reducesTo_S128x2048x29_S128x2048_d2 h_S_ = topAt A := by
  funext j
  refine (Host.reduce_eq_fold_single (FloatOps.maximumf (F := Ideal) (φ := .f32)) _ _ reducesTo_S128x2048x29_S128x2048_d2 red h_S_ j).trans ?_
  have e : (constant (F := Ideal) S_ .f32 0xFF800000#32) (Shape.Idx.first h_S_) = (⊥ : EReal) := ofBits_low
  rw [e]
  refine fold_max_best (tree_exp_best (scores A j)) (ι := Fin 29) (fun k => Ideal.exp (A (red.lift j k))) fun v => ?_
  constructor
  · rintro ⟨k, rfl⟩
    refine ⟨k.val, k.isLt, ?_⟩
    rw [lift_eq]
    show Ideal.exp (A (ix3 (j 0) (j 1) (Fin.ofNat 29 k.val))) = _
    rw [show (Fin.ofNat 29 k.val) = k from Fin.ext (Nat.mod_eq_of_lt k.isLt)]
    rfl
  · rintro ⟨i, hi, rfl⟩
    refine ⟨⟨i, hi⟩, ?_⟩
    rw [lift_eq]
    show _ = Ideal.exp (A (ix3 (j 0) (j 1) (Fin.ofNat 29 i)))
    rw [show (Fin.ofNat 29 i) = ⟨i, hi⟩ from Fin.ext (Nat.mod_eq_of_lt hi)]
    rfl

/-- The shifted classes: minus one at the first timestep, else the class before. -/
theorem shift_eq (A : Scores Ideal) (j : Cell) :
    concatenate S128x2048 1 [⟨S128x1, broadcastInDim S128x1 ![] bcast_S_S128x1 (constantI S_ 32 4294967295#32)⟩,
          ⟨S128x2047, extractStridedSlice S128x2047 ![0, 0] (tagAt A) slices_S128x2048_S128x2047_0_0⟩]
          concatenates_S128x1_S128x2047_S128x2048_d1 j = prevAt A j := by
  unfold prevAt
  by_cases h : (j 1).val = 0
  · rw [if_pos h]
    refine (concatenate_pair_apply_left 1 _ _ concatenates_S128x1_S128x2047_S128x2048_d1 j rfl (ix2 (j 0) (0 : Fin 1)) fun b => ?_).trans ?_
    · match b with
      | ⟨0, _⟩ => rfl
      | ⟨1, _⟩ => exact h.symm
    · rfl
  · rw [if_neg h]
    have hj : (j 1).val < 2048 := (j 1).isLt
    refine (concatenate_pair_apply_right 1 _ _ concatenates_S128x1_S128x2047_S128x2048_d1 j rfl rfl
      (ix2 (j 0) (⟨(j 1).val - 1, by omega⟩ : Fin 2047)) (fun b hb => ?_) ?_).trans ?_
    · match b with
      | ⟨0, _⟩ => rfl
      | ⟨1, _⟩ => exact absurd rfl hb
    · show (j 1).val - 1 + 1 = (j 1).val
      omega
    · refine extractStridedSlice_apply _ _ _ _ (before j) fun a => ?_
      match a with
      | ⟨0, _⟩ => exact (Nat.zero_add _).symm
      | ⟨1, _⟩ =>
        show ((j 1).val - 1) % 2048 = 0 + ((j 1).val - 1)
        rw [Nat.mod_eq_of_lt (by omega), Nat.zero_add]

/-- The first result: the chosen classes. -/
theorem tag_eq (V : Valuation τ sig (Elt Ideal)) : after ops V (main_v1 : DevRef τ sig) = tagAt (F := Ideal) (V (main_arg0 : DevRef τ sig)) := by
  rw [v1_eq]; funext j; exact pairs_tag _ j

/-- The third result: their probabilities. -/
theorem top_eq (V : Valuation τ sig (Elt Ideal)) : after ops V (main_v9 : DevRef τ sig) = topAt (F := Ideal) (V (main_arg0 : DevRef τ sig)) := by
  rw [v9_eq]; exact max_eq _

/-- The mask's operations on the classes chosen. -/
theorem mask_of (A : Scores Ideal) :
    andi (cmpi .ne (tagAt A) (broadcastInDim S128x2048 ![] bcast_S_S128x2048 (constantI S_ 32 0#32)))
      (cmpi .ne (tagAt A)
        (concatenate S128x2048 1 [⟨S128x1, broadcastInDim S128x1 ![] bcast_S_S128x1 (constantI S_ 32 4294967295#32)⟩,
          ⟨S128x2047, extractStridedSlice S128x2047 ![0, 0] (tagAt A) slices_S128x2048_S128x2047_0_0⟩]
          concatenates_S128x1_S128x2047_S128x2048_d1)) = maskAt A := by
  funext j
  exact congrArg (fun z => IntOp.andi (IntOp.cmpi .ne (tagAt A j) 0#32) (IntOp.cmpi .ne (tagAt A j) z)) (shift_eq A j)

/-- The classes of the pairs, all at once. -/
theorem pairs_tags (A : Scores Ideal) : (fun j => (pairs A j).2) = tagAt A := funext fun j => pairs_tag A j

/-- The second result: the mask. -/
theorem mask_eq (V : Valuation τ sig (Elt Ideal)) : after ops V (main_v8 : DevRef τ sig) = maskAt (F := Ideal) (V (main_arg0 : DevRef τ sig)) := by
  rw [v8_eq, pairs_tags]
  exact mask_of _

/-- The reference leaves its argument as it was and every counter at zero. -/
theorem frame_reference : Cert.quiescent_ReferenceIdeal := by
  intro m ρ _
  exact (θ_run Cert.ReferenceIdeal.defs _ _).mono (fun r h => ⟨fun c => (h c main_arg0).trans (arg0_eq _),
      sem_eq_zero_of_no_sems (by decide) r.2⟩) (run_main (F := Ideal) m ρ)

end Cert.Proof.R

end
-- ==== Proof.Same.lean ====
/-
  The printed program and its idealization are the same text: the two mean the same program.
-/
module

public import proofs.«01_k».proof.Defs
public import proofs.«01_k».proof.Proof.Gen.Kernel
public import proofs.«01_k».proof.Proof.Gen.KernelIdeal

@[expose] public section

noncomputable section

namespace Cert.Proof

open Idealize.ShloMosaic

variable {F : FTy → Type} [FloatOps F]

/-- Both programs declare the same arrays and semaphores. -/
theorem same_sig : Cert.Kernel.sig = Cert.KernelIdeal.sig := rfl

/-- Both programs start the same threads. -/
theorem same_threads : (Cert.Kernel.threads (F := F)) = Cert.KernelIdeal.threads (F := F) := rfl

/-- Both programs have the same kernel bodies: on each kind of processor, each label runs the same function. -/
theorem same_defs₀ : (Cert.Kernel.defs₀ (F := F)) = Cert.KernelIdeal.defs₀ (F := F) := by
  funext p ℓ a
  match p, ℓ, a with
  | .scVector c s, ⟨0, _⟩, _ => rfl
  | .scVector c s, ⟨1, _⟩, _ => rfl
  | .scScalar c, ⟨0, _⟩, _ => rfl
  | .scScalar c, ⟨1, _⟩, _ => rfl
  | .tc, ⟨0, _⟩, _ => rfl
  | .tc, ⟨1, _⟩, (t, s) => rfl

/-- Both programs have the same body table, the launches of the kernels included. -/
theorem same_defs : (Cert.Kernel.defs (F := F)) = Cert.KernelIdeal.defs (F := F) :=
  congrArg (fun D => Cert.KernelIdeal.sc.defs (Idealize.ShloMosaic.Pipeline.defs Cert.KernelIdeal.pcfgs D)) (same_defs₀ (F := F))

end Cert.Proof

end
-- ==== Proof.lean ====
/-
  The certificate: the kernel's frame (its program is the same text as its idealization's, run at `Bits`), the idealization's and
  the reference's frames, and the equality of the three results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Launch
public import proofs.«01_k».proof.Proof.Kern
public import proofs.«01_k».proof.Proof.Ref
public import proofs.«01_k».proof.Proof.Same
public import Idealize.ShloMosaic.Adequacy
public import Idealize.ShloMosaic.Init

@[expose] public section

noncomputable section

namespace Cert.Proof

open Idealize.ShloMosaic Idealize.SL.Sem

/-- An unscoped array of the TensorCore at the end of the program's run. -/
theorem end_at {F : FTy → Type} [FloatOps F]
    (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : QC m r) (c : Dev Cert.KernelIdeal.nD)
    (b : Ref Cert.KernelIdeal.sig .tc) (hb : b.isScoped = false) : r.2.mem ((c.tc : Thread Cert.KernelIdeal.nD Cert.KernelIdeal.τ).loc b) = V4 m c (Proc.devRef .tc b) :=
  h.1 c (Proc.devRef .tc b) (Pipeline.devRef_mem_ucRefs hb)

/-- The program's run over any floats: it ends, its argument as it was and every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs Cert.KernelIdeal.threads { mem := m, sem := fun _ => 0, prng := ρ } fun r =>
      (∀ c : Dev Cert.KernelIdeal.nD, r.2.mem (c.tc.loc Cert.KernelIdeal.main_arg0) = m (c.tc.loc Cert.KernelIdeal.main_arg0))
        ∧ r.2.sem = fun _ => 0 :=
  (θ_run Cert.KernelIdeal.defs _ _).mono (fun r h => ⟨fun c => (end_at m h c Cert.KernelIdeal.main_arg0 rfl).trans (V4_arg0 m c), h.2⟩)
    (run_main m ρ)

/-- The kernel runs, leaves its argument as it was and every counter at zero. -/
theorem frame_kernel : Cert.quiescent_Kernel := by
  intro m ρ _
  have h := frame_any (F := Bits) m ρ
  rw [← same_defs] at h
  exact h

/-- Its idealization likewise. -/
theorem frame_ideal : Cert.quiescent_KernelIdeal := fun m ρ _ => frame_any (F := Ideal) m ρ

/-- Over the extended reals both programs leave the chosen classes, the mask and the probabilities of the plain decode. -/
theorem results : Cert.algebraic_KernelIdeal_ReferenceIdeal := by
  intro m ρ m' ρ' _ hagree
  refine ⟨fun c => tagAt (F := Ideal) (arg m c), fun c => maskAt (F := Ideal) (arg m c), fun c => topAt (F := Ideal) (arg m c),
    (θ_run Cert.KernelIdeal.defs _ _).mono (fun r h c =>
      ⟨(end_at m h c Cert.KernelIdeal.main_v7 rfl).trans (V4_tag m c), (end_at m h c Cert.KernelIdeal.main_v16 rfl).trans (V4_mask m c),
        (end_at m h c Cert.KernelIdeal.main_v13 rfl).trans (V4_top m c), (end_at m h c Cert.KernelIdeal.main_arg0 rfl).trans (V4_arg0 m c)⟩)
      (run_main (F := Ideal) m ρ),
    (θ_run Cert.ReferenceIdeal.defs _ _).mono (fun r h c => ?_) (R.run_main (F := Ideal) m' ρ')⟩
  have e : (StableHlo.launchContents m' c (Proc.devRef .tc Cert.ReferenceIdeal.main_arg0) : Scores Ideal) = arg m c := hagree c
  refine ⟨(h c Cert.ReferenceIdeal.main_v1).trans ?_, (h c Cert.ReferenceIdeal.main_v8).trans ?_, (h c Cert.ReferenceIdeal.main_v9).trans ?_,
    (h c Cert.ReferenceIdeal.main_arg0).trans (R.arg0_eq _)⟩
  · exact (R.tag_eq _).trans (congrArg (tagAt (F := Ideal)) e)
  · exact (R.mask_eq _).trans (congrArg (maskAt (F := Ideal)) e)
  · exact (R.top_eq _).trans (congrArg (topAt (F := Ideal)) e)

/-- All five claims. -/
theorem claim : Cert.Claim := ⟨Cert.Kernel.Gen.facts, Cert.KernelIdeal.Gen.facts, Cert.ReferenceIdeal.Gen.facts,
  frame_kernel, frame_ideal, R.frame_reference, trivial, results⟩

end Cert.Proof

end
